-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v2)) (v4 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v52) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_apart : Cert.Pre_apart.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
-- ==== Pre_apart.lean ====
abbrev S8x64x4096 : Shape := ⟨3, ![8, 64, 4096]⟩
abbrev S1024x64 : Shape := ⟨2, ![1024, 64]⟩
abbrev S8x4096x64 : Shape := ⟨3, ![8, 4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩

class Facts : Prop where
  transposes_S8x64x4096_S8x4096x64_0_2_1 : S8x64x4096.Transposes [0, 2, 1] S8x4096x64
  shapeCasts_S8x4096x64_S32768x64 : S8x4096x64.ShapeCasts S32768x64
  reducesTo_S32768x64_S32768_d1 : S32768x64.ReducesTo [1] S32768
  h_S_ : 0 < S_.numel
  bcast_S32768_S32768x1_0 : S32768.BroadcastsInDim S32768x1 (![0] : Fin 1 → Fin S32768x1.rank)
  reducesTo_S1024x64_S1024_d1 : S1024x64.ReducesTo [1] S1024
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  transposes_S1024x64_S64x1024_1_0 : S1024x64.Transposes [1, 0] S64x1024
  bcast_S_S32768x1024 : S_.BroadcastsInDim S32768x1024 (![] : Fin 0 → Fin S32768x1024.rank)
  bcast_S_S8x64x4096 : S_.BroadcastsInDim S8x64x4096 (![] : Fin 0 → Fin S8x64x4096.rank)
  bcast_S_S1024x64 : S_.BroadcastsInDim S1024x64 (![] : Fin 0 → Fin S1024x64.rank)
  dot_S32768x64_S64x1024_S32768x1024_1_0_0_1_n_n_wf : DotDims.WF S32768x64 S64x1024 S32768x1024 [1] [0] [0] [1] [] []

variable [Facts]

def dot_S32768x64_S64x1024_S32768x1024_1_0_0_1_n_n : DotDims S32768x64 S64x1024 S32768x1024 where
  lhsContracting := [1]
  rhsContracting := [0]
  lhsNonContracting := [0]
  rhsNonContracting := [1]
  lhsBatch := []
  rhsBatch := []
  wf := dot_S32768x64_S64x1024_S32768x1024_1_0_0_1_n_n_wf
def fn_part1 {F : FTy → Type} [FloatOps F] (main_v15 : FVec F S32768x1024 .f32) (main_v18 : IVec S8x64x4096 1) (main_v19 : FVec F S1024x64 .f32) : IVec S8x64x4096 1 × IVec S1024x64 1 × IVec S32768x1024 1 :=
  let main_cst_3 : FVec F S_ .f32 := constant S_ .f32 0x7F800000#32
  let main_v20 : FVec F S1024x64 .f32 := broadcastInDim S1024x64 ![] bcast_S_S1024x64 main_cst_3
  let main_v21 : IVec S1024x64 1 := cmpf .olt main_v19 main_v20
  let main_cst_4 : FVec F S_ .f32 := constant S_ .f32 0x00800000#32
  let main_v22 : FVec F S32768x1024 .f32 := broadcastInDim S32768x1024 ![] bcast_S_S32768x1024 main_cst_4
  let main_v23 : IVec S32768x1024 1 := cmpf .oge main_v15 main_v22
  (main_v18, main_v21, main_v23)

def fn {F : FTy → Type} [FloatOps F] (main_arg0 : FVec F S8x64x4096 .f32) (main_arg1 : FVec F S1024x64 .f32) : IVec S8x64x4096 1 × IVec S1024x64 1 × IVec S32768x1024 1 :=
  let main_v0 : FVec F S8x4096x64 .f32 := (transpose S8x4096x64 [0, 2, 1] · transposes_S8x64x4096_S8x4096x64_0_2_1) main_arg0
  let main_v1 : FVec F S32768x64 .f32 := shapeCast S32768x64 main_v0 shapeCasts_S8x4096x64_S32768x64
  let main_v2 : FVec F S32768x64 .f32 := mulf main_v1 main_v1
  let main_cst : FVec F S_ .f32 := constant S_ .f32 0x00000000#32
  let main_v3 : FVec F S32768 .f32 := (fun x v => Host.reduceAdd x v reducesTo_S32768x64_S32768_d1 h_S_) main_v2 main_cst
  let main_v4 : FVec F S32768x1 .f32 := broadcastInDim S32768x1 ![0] bcast_S32768_S32768x1_0 main_v3
  let main_v5 : FVec F S1024x64 .f32 := mulf main_arg1 main_arg1
  let main_cst_0 : FVec F S_ .f32 := constant S_ .f32 0x00000000#32
  let main_v6 : FVec F S1024 .f32 := (fun x v => Host.reduceAdd x v reducesTo_S1024x64_S1024_d1 h_S_) main_v5 main_cst_0
  let main_v7 : FVec F S1x1024 .f32 := broadcastInDim S1x1024 ![1] bcast_S1024_S1x1024_1 main_v6
  let main_v8 : FVec F S32768x1024 .f32 := broadcastInDim S32768x1024 ![0, 1] bcast_S32768x1_S32768x1024_0_1 main_v4
  let main_v9 : FVec F S32768x1024 .f32 := broadcastInDim S32768x1024 ![0, 1] bcast_S1x1024_S32768x1024_0_1 main_v7
  let main_v10 : FVec F S32768x1024 .f32 := addf main_v8 main_v9
  let main_v11 : FVec F S64x1024 .f32 := (transpose S64x1024 [1, 0] · transposes_S1024x64_S64x1024_1_0) main_arg1
  let main_v12 : FVec F S32768x1024 .f32 := (fun l r => Host.dotGeneral dot_S32768x64_S64x1024_S32768x1024_1_0_0_1_n_n none l r) main_v1 main_v11
  let main_cst_1 : FVec F S_ .f32 := constant S_ .f32 0x40000000#32
  let main_v13 : FVec F S32768x1024 .f32 := broadcastInDim S32768x1024 ![] bcast_S_S32768x1024 main_cst_1
  let main_v14 : FVec F S32768x1024 .f32 := mulf main_v13 main_v12
  let main_v15 : FVec F S32768x1024 .f32 := subf main_v10 main_v14
  let main_v16 : FVec F S8x64x4096 .f32 := Host.absf main_arg0
  let main_cst_2 : FVec F S_ .f32 := constant S_ .f32 0x7F800000#32
  let main_v17 : FVec F S8x64x4096 .f32 := broadcastInDim S8x64x4096 ![] bcast_S_S8x64x4096 main_cst_2
  let main_v18 : IVec S8x64x4096 1 := cmpf .olt main_v16 main_v17
  let main_v19 : FVec F S1024x64 .f32 := Host.absf main_arg1
  fn_part1 (F := F) main_v15 main_v18 main_v19
-- ==== Kernel.lean ====
abbrev S8x64x4096 : Shape := ⟨3, ![8, 64, 4096]⟩
abbrev S1024x64 : Shape := ⟨2, ![1024, 64]⟩
abbrev S8x1x4096 : Shape := ⟨3, ![8, 1, 4096]⟩
abbrev S1x1 : Shape := ⟨2, ![1, 1]⟩
abbrev S1x64x4096 : Shape := ⟨3, ![1, 64, 4096]⟩
abbrev S1x1x4096 : Shape := ⟨3, ![1, 1, 4096]⟩
abbrev S1x1024 : Shape := ⟨2, ![1, 1024]⟩
abbrev S1x4096 : Shape := ⟨2, ![1, 4096]⟩
abbrev S1024 : Shape := ⟨1, ![1024]⟩
abbrev S1024x1 : Shape := ⟨2, ![1024, 1]⟩
abbrev S1024x4096 : Shape := ⟨2, ![1024, 4096]⟩
abbrev S64x4096 : Shape := ⟨2, ![64, 4096]⟩
abbrev S4096 : Shape := ⟨1, ![4096]⟩
abbrev S1 : Shape := ⟨1, ![1]⟩
abbrev S8x4096 : Shape := ⟨2, ![8, 4096]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S8x64x4096, .f32⟩
  | .hbm, ⟨1, _⟩ => ⟨S1024x64, .f32⟩
  | .hbm, ⟨2, _⟩ => ⟨S8x64x4096, .f32⟩
  | .hbm, ⟨3, _⟩ => ⟨S8x1x4096, .i32⟩
  | .hbm, ⟨4, _⟩ => ⟨S1x1, .f32⟩
  | .hbm, ⟨5, _⟩ => ⟨S1x1, .f32⟩
  | .hbm, ⟨6, _⟩ => ⟨S8x4096, .i32⟩
  | .hbm, ⟨7, _⟩ => ⟨S_, .f32⟩
  | .hbm, ⟨8, _⟩ => ⟨S_, .f32⟩
  | .local _ .vmem, ⟨0, _⟩ => ⟨S1x64x4096, .f32⟩
  | .local _ .vmem, ⟨1, _⟩ => ⟨S1x64x4096, .f32⟩
  | .local _ .vmem, ⟨2, _⟩ => ⟨S1024x64, .f32⟩
  | .local _ .vmem, ⟨3, _⟩ => ⟨S1x64x4096, .f32⟩
  | .local _ .vmem, ⟨4, _⟩ => ⟨S1x64x4096, .f32⟩
  | .local _ .vmem, ⟨5, _⟩ => ⟨S1x1x4096, .i32⟩
  | .local _ .vmem, ⟨6, _⟩ => ⟨S1x1x4096, .i32⟩
  | .local _ .vmem, ⟨7, _⟩ => ⟨S1x1, .f32⟩
  | .local _ .vmem, ⟨8, _⟩ => ⟨S1x1, .f32⟩
  | .local _ .vmem, ⟨9, _⟩ => ⟨S1x1024, .f32⟩
  | .local _ .vmem, ⟨10, _⟩ => ⟨S1x4096, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_28 : BitVec 32 := 0#32
  let v61 : BitVec 1 := Scalar.cmpi .ne v60 c0_i32_28
  v61

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x64x4096 : Shape := ⟨3, ![8, 64, 4096]⟩
abbrev S1024x64 : Shape := ⟨2, ![1024, 64]⟩
abbrev S8x4096x64 : Shape := ⟨3, ![8, 4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1 : Shape := ⟨1, ![1]⟩
abbrev S1x1 : Shape := ⟨2, ![1, 1]⟩
abbrev S8x4096 : Shape := ⟨2, ![8, 4096]⟩

abbrev nBuf : Space → Nat
  | .hbm => 100
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S1024x64, .f32⟩
  | .hbm, ⟨2, _⟩ => ⟨S8x4096x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S64x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .i32⟩
  | .hbm, ⟨26, _⟩ => ⟨S_, .f32⟩
  | .hbm, ⟨27, _⟩ => ⟨S_, .i32⟩
  | .hbm, ⟨28, _⟩ => ⟨S32768, .f32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S1, .i32⟩
  | .hbm, ⟨39, _⟩ => ⟨S_, .i32⟩
  | .hbm, ⟨40, _⟩ => ⟨S32768x1, .i32⟩
  | .hbm, ⟨41, _⟩ => ⟨S32768x1, .i1⟩
  | .hbm, ⟨42, _⟩ => ⟨S1x1, .i32⟩
  | .hbm, ⟨43, _⟩ => ⟨S32768x1, .i32⟩
  | .hbm, ⟨44, _⟩ => ⟨S32768x1, .i1⟩
  | .hbm, ⟨45, _⟩ => ⟨S32768x1, .i1⟩
  | .hbm, ⟨46, _⟩ => ⟨S_, .i1⟩
  | .hbm, ⟨47, _⟩ => ⟨S32768, .i1⟩
  | .hbm, ⟨48, _⟩ => ⟨S32768x64, .f32⟩
  | .hbm, ⟨49, _⟩ => ⟨S32768x64, .i1⟩
  | .hbm, ⟨50, _⟩ => ⟨S_, .f32⟩
  | .hbm, ⟨51, _⟩ => ⟨S32768x64, .f32⟩
  | .hbm, ⟨52, _⟩ => ⟨S32768x64, .f32⟩
  | .hbm, ⟨53, _⟩ => ⟨S8x4096x64, .f32⟩
  | .hbm, ⟨54, _⟩ => ⟨S8x64x4096, .f32⟩
  | .hbm, ⟨55, _⟩ => ⟨S8x64x4096, .f32⟩
  | .hbm, ⟨56, _⟩ => ⟨S8x64x4096, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8x64x4096, .f32⟩
  | .hbm, ⟨62, _⟩ => ⟨S8x64x4096, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8x64x4096, .f32⟩
  | .hbm, ⟨68, _⟩ => ⟨S8x64x4096, .f32⟩
  | .hbm, ⟨69, _⟩ => ⟨S_, .i32⟩
  | .hbm, ⟨70, _⟩ => ⟨S1024, .i32⟩
  | .hbm, ⟨71, _⟩ => ⟨S_, .i32⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S_, .i32⟩
  | .hbm, ⟨76, _⟩ => ⟨S32768, .i32⟩
  | .hbm, ⟨77, _⟩ => ⟨S32768, .i1⟩
  | .hbm, ⟨78, _⟩ => ⟨S_, .i32⟩
  | .hbm, ⟨79, _⟩ => ⟨S32768, .i32⟩
  | .hbm, ⟨80, _⟩ => ⟨S32768, .i32⟩
  | .hbm, ⟨81, _⟩ => ⟨S32768, .i32⟩
  | .hbm, ⟨82, _⟩ => ⟨S32768x1, .i32⟩
  | .hbm, ⟨83, _⟩ => ⟨S_, .i32⟩
  | .hbm, ⟨84, _⟩ => ⟨S32768, .i32⟩
  | .hbm, ⟨85, _⟩ => ⟨S1024, .i32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .f32⟩
  | .hbm, ⟨90, _⟩ => ⟨S_, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8x4096, .i32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c : Ref sig .tc := ⟨.hbm, 69, rfl⟩
abbrev main_v33 : Ref sig .tc := ⟨.hbm, 70, rfl⟩
abbrev main_c_7 : Ref sig .tc := ⟨.hbm, 71, rfl⟩
abbrev main_call2_v0 : Ref sig .tc := ⟨.hbm, 72, rfl⟩
abbrev main_call2_v1 : Ref sig .tc := ⟨.hbm, 73, rfl⟩
abbrev main_v34 : Ref sig .tc := ⟨.hbm, 74, rfl⟩
abbrev main_c_8 : Ref sig .tc := ⟨.hbm, 75, rfl⟩
abbrev main_v35 : Ref sig .tc := ⟨.hbm, 76, rfl⟩
abbrev main_v36 : Ref sig .tc := ⟨.hbm, 77, rfl⟩
abbrev main_c_9 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_10 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_11 : Ref sig .tc := ⟨.hbm, 87, rfl⟩
abbrev main_v44 : Ref sig .tc := ⟨.hbm, 88, rfl⟩
abbrev main_v45 : Ref sig .tc := ⟨.hbm, 89, rfl⟩
abbrev main_cst_12 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_13 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩

abbrev nD : Nat := 1
abbrev τ : Topo := Topo.v7x

variable {F : FTy → Type} [FloatOps F]
-- ==== Proof.KernelBody.lean ====
module

public import proofs.«01_k».proof.Defs
public import proofs.«01_k».proof.Proof.Gen.KernelIdeal.Frame
public import Idealize.ShloMosaic.Lib.Pipeline.Value
public import Idealize.ShloMosaic.Lib.Tactic

/-! What one run of the kernel's body leaves in each output block and in each carried scratch, as a term of the two
input blocks and of what the scratch held before. -/

@[expose] public section

noncomputable section

namespace Cert.KernelIdeal.Body

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block of quantised vectors one point stores. -/
def quantB (cb : Vec F S1024x64 .f32) (x : Vec F S1x64x4096 .f32) : Vec F S1x64x4096 .f32 := k0_pay1 (k0_pay14 cb x)
/-- The block of codes one point stores. -/
def codesB (cb : Vec F S1024x64 .f32) (x : Vec F S1x64x4096 .f32) : Vec F S1x1x4096 .i32 := k0_pay2 (k0_pay12 cb x)
/-- The code counts after a point, over the counts before it. -/
def countsB (cb : Vec F S1024x64 .f32) (x : Vec F S1x64x4096 .f32) (s : Vec F S1x1024 .f32) : Vec F S1x1024 .f32 :=
  k0_pay3 (k0_pay13 cb x) s
/-- The squared errors after a point, over those before it. -/
def sseB (cb : Vec F S1024x64 .f32) (x : Vec F S1x64x4096 .f32) (s : Vec F S1x4096 .f32) : Vec F S1x4096 .f32 :=
  k0_pay4 (k0_pay11 cb x) s

section
variable (c : Dev nD) (i : grid0.Coords) (a1 : Memref sig .tc .vmem S1x64x4096 .f32) (h1 : a1.IsWhole)
  (a2 : Memref sig .tc .vmem S1024x64 .f32) (h2 : a2.IsWhole) (a3 : Memref sig .tc .vmem S1x64x4096 .f32) (h3 : a3.IsWhole)
  (a4 : Memref sig .tc .vmem S1x1x4096 .i32) (h4 : a4.IsWhole) (a5 : Memref sig .tc .vmem S1x1 .f32) (h5 : a5.IsWhole)
  (a6 : Memref sig .tc .vmem S1x1 .f32) (h6 : a6.IsWhole) (a7 : Memref sig .tc .vmem S1x1024 .f32) (h7 : a7.IsWhole)
  (a8 : Memref sig .tc .vmem S1x4096 .f32) (h8 : a8.IsWhole) (x : Vec F S1x64x4096 .f32) (cb : Vec F S1024x64 .f32)
  (s0 : Vec F S1x1024 .f32) (s1 : Vec F S1x4096 .f32)

/-- At the last point the quantised block is `quantB` of the input blocks. -/
theorem outC2 (hc0 : ¬cond0_0 i) (hc1 : cond0_1 i) :
    out0_C_2 c i a1 h1 a2 h2 a3 h3 a4 h4 a5 h5 a6 h6 a7 h7 a8 h8 hc0 hc1 x cb s0 s1 = quantB cb x := by
  unfold out0_C_2
  rw [View.read_writes_eq_canon _ _ _ (cover0_C_2 c i a1 h1 a2 h2 a3 h3 a4 h4 a5 h5 a6 h6 a7 h7 a8 h8 hc0 hc1 x cb s0 s1)]
  unfold kernelRun0_C
  dsimp only
  sl_unfold_words
  rw [View.canon_unit_zero hz3]
  unfold quantB
  simp only [View.readAt_eq_ld, h1.read_unread, h2.read_unread, View.ld_unit_zero (S := S1024x64) hz2, View.ld_unit_zero (S := S1x64x4096) hz3]

/-- At the last point the loss is `k0_pay5` of the squared errors that point leaves. -/
theorem outC4 (hc0 : ¬cond0_0 i) (hc1 : cond0_1 i) :
    out0_C_4 c i a1 h1 a2 h2 a3 h3 a4 h4 a5 h5 a6 h6 a7 h7 a8 h8 hc0 hc1 x cb s0 s1 = k0_pay5 (sseB cb x s1) := by
  unfold out0_C_4
  rw [View.read_writes_eq_canon _ _ _ (cover0_C_4 c i a1 h1 a2 h2 a3 h3 a4 h4 a5 h5 a6 h6 a7 h7 a8 h8 hc0 hc1 x cb s0 s1)]
  unfold kernelRun0_C
  dsimp only
  sl_unfold_words
  rw [View.canon_unit_zero hz2, View.readCov_unit_zero (S := S1x4096) _ hz2]
  unfold sseB
  simp only [View.readAt_eq_ld, h1.read_unread, h2.read_unread, h8.read_unread, View.ld_unit_zero (S := S1024x64) hz2, View.ld_unit_zero (S := S1x4096) hz2, View.ld_unit_zero (S := S1x64x4096) hz3]

/-- After the last point the counts are `countsB` over the counts before. -/
theorem soutC0 (hc0 : ¬cond0_0 i) (hc1 : cond0_1 i) :
    sout0_C_0 c i a1 h1 a2 h2 a3 h3 a4 h4 a5 h5 a6 h6 a7 h7 a8 h8 hc0 hc1 x cb s0 s1 = countsB cb x s0 := by
  unfold sout0_C_0
  rw [View.read_writes_eq_canon _ _ _ (scover0_C_0 c i a1 h1 a2 h2 a3 h3 a4 h4 a5 h5 a6 h6 a7 h7 a8 h8 hc0 hc1 x cb s0 s1)]
  unfold kernelRun0_C
  dsimp only
  sl_unfold_words
  rw [View.canon_unit_zero hz2]
  unfold countsB
  simp only [View.readAt_eq_ld, h1.read_unread, h2.read_unread, h7.read_unread, View.ld_unit_zero (S := S1024x64) hz2, View.ld_unit_zero (S := S1x1024) hz2, View.ld_unit_zero (S := S1x64x4096) hz3]

/-- After the first point the counts are `countsB` over zeros. -/
theorem soutA0 (hc0 : cond0_0 i) (hc1 : ¬cond0_1 i) :
    sout0_A_0 c i a1 h1 a2 h2 a3 h3 a4 h4 a5 h5 a6 h6 a7 h7 a8 h8 hc0 hc1 x cb = countsB cb x k0_pay7 := by
  unfold sout0_A_0
  rw [View.read_writes_eq_canon _ _ _ (scover0_A_0 c i a1 h1 a2 h2 a3 h3 a4 h4 a5 h5 a6 h6 a7 h7 a8 h8 hc0 hc1 x cb)]
  unfold kernelRun0_A
  dsimp only
  sl_unfold_words
  rw [View.canon_cons_unit_zero (S := S1x1024) hz2, View.readCov_unit_zero (S := S1x1024) _ hz2]
  unfold countsB
  simp only [View.readAt_eq_ld, h1.read_unread, h2.read_unread, View.ld_unit_zero (S := S1024x64) hz2, View.ld_unit_zero (S := S1x64x4096) hz3]

/-- At the first point the quantised block is `quantB`. -/
theorem outA2 (hc0 : cond0_0 i) (hc1 : ¬cond0_1 i) :
    out0_A_2 c i a1 h1 a2 h2 a3 h3 a4 h4 a5 h5 a6 h6 a7 h7 a8 h8 hc0 hc1 x cb = quantB cb x := by
  unfold out0_A_2
  rw [View.read_writes_eq_canon _ _ _ (cover0_A_2 c i a1 h1 a2 h2 a3 h3 a4 h4 a5 h5 a6 h6 a7 h7 a8 h8 hc0 hc1 x cb)]
  unfold kernelRun0_A
  dsimp only
  sl_unfold_words
  rw [View.canon_unit_zero hz3]
  unfold quantB
  simp only [View.readAt_eq_ld, h1.read_unread, h2.read_unread, View.ld_unit_zero (S := S1024x64) hz2, View.ld_unit_zero (S := S1x64x4096) hz3]

/-- At a point in between the quantised block is `quantB`. -/
theorem outB2 (hc0 : ¬cond0_0 i) (hc1 : ¬cond0_1 i) :
    out0_B_2 c i a1 h1 a2 h2 a3 h3 a4 h4 a5 h5 a6 h6 a7 h7 a8 h8 hc0 hc1 x cb s0 s1 = quantB cb x := by
  unfold out0_B_2
  rw [View.read_writes_eq_canon _ _ _ (cover0_B_2 c i a1 h1 a2 h2 a3 h3 a4 h4 a5 h5 a6 h6 a7 h7 a8 h8 hc0 hc1 x cb s0 s1)]
  unfold kernelRun0_B
  dsimp only
  sl_unfold_words
  rw [View.canon_unit_zero hz3]
  unfold quantB
  simp only [View.readAt_eq_ld, h1.read_unread, h2.read_unread, View.ld_unit_zero (S := S1024x64) hz2, View.ld_unit_zero (S := S1x64x4096) hz3]

/-- At the first point the codes are `codesB`. -/
theorem outA3 (hc0 : cond0_0 i) (hc1 : ¬cond0_1 i) :
    out0_A_3 c i a1 h1 a2 h2 a3 h3 a4 h4 a5 h5 a6 h6 a7 h7 a8 h8 hc0 hc1 x cb = codesB cb x := by
  unfold out0_A_3
  rw [View.read_writes_eq_canon _ _ _ (cover0_A_3 c i a1 h1 a2 h2 a3 h3 a4 h4 a5 h5 a6 h6 a7 h7 a8 h8 hc0 hc1 x cb)]
  unfold kernelRun0_A
  dsimp only
  sl_unfold_words
  rw [View.canon_unit_zero hz3]
  unfold codesB
  simp only [View.readAt_eq_ld, h1.read_unread, h2.read_unread, View.ld_unit_zero (S := S1024x64) hz2, View.ld_unit_zero (S := S1x64x4096) hz3]

/-- At a point in between the codes are `codesB`. -/
theorem outB3 (hc0 : ¬cond0_0 i) (hc1 : ¬cond0_1 i) :
    out0_B_3 c i a1 h1 a2 h2 a3 h3 a4 h4 a5 h5 a6 h6 a7 h7 a8 h8 hc0 hc1 x cb s0 s1 = codesB cb x := by
  unfold out0_B_3
  rw [View.read_writes_eq_canon _ _ _ (cover0_B_3 c i a1 h1 a2 h2 a3 h3 a4 h4 a5 h5 a6 h6 a7 h7 a8 h8 hc0 hc1 x cb s0 s1)]
  unfold kernelRun0_B
  dsimp only
  sl_unfold_words
  rw [View.canon_unit_zero hz3]
  unfold codesB
  simp only [View.readAt_eq_ld, h1.read_unread, h2.read_unread, View.ld_unit_zero (S := S1024x64) hz2, View.ld_unit_zero (S := S1x64x4096) hz3]

/-- At the last point the codes are `codesB`. -/
theorem outC3 (hc0 : ¬cond0_0 i) (hc1 : cond0_1 i) :
    out0_C_3 c i a1 h1 a2 h2 a3 h3 a4 h4 a5 h5 a6 h6 a7 h7 a8 h8 hc0 hc1 x cb s0 s1 = codesB cb x := by
  unfold out0_C_3
  rw [View.read_writes_eq_canon _ _ _ (cover0_C_3 c i a1 h1 a2 h2 a3 h3 a4 h4 a5 h5 a6 h6 a7 h7 a8 h8 hc0 hc1 x cb s0 s1)]
  unfold kernelRun0_C
  dsimp only
  sl_unfold_words
  rw [View.canon_unit_zero hz3]
  unfold codesB
  simp only [View.readAt_eq_ld, h1.read_unread, h2.read_unread, View.ld_unit_zero (S := S1024x64) hz2, View.ld_unit_zero (S := S1x64x4096) hz3]

/-- At the last point the perplexity is `k0_pay6` of the counts that point leaves. -/
theorem outC5 (hc0 : ¬cond0_0 i) (hc1 : cond0_1 i) :
    out0_C_5 c i a1 h1 a2 h2 a3 h3 a4 h4 a5 h5 a6 h6 a7 h7 a8 h8 hc0 hc1 x cb s0 s1 = k0_pay6 (countsB cb x s0) := by
  unfold out0_C_5
  rw [View.read_writes_eq_canon _ _ _ (cover0_C_5 c i a1 h1 a2 h2 a3 h3 a4 h4 a5 h5 a6 h6 a7 h7 a8 h8 hc0 hc1 x cb s0 s1)]
  unfold kernelRun0_C
  dsimp only
  sl_unfold_words
  rw [View.canon_unit_zero hz2, View.readCov_unit_zero (S := S1x1024) _ hz2]
  unfold countsB
  simp only [View.readAt_eq_ld, h1.read_unread, h2.read_unread, h7.read_unread, View.ld_unit_zero (S := S1x1024) hz2, View.ld_unit_zero (S := S1024x64) hz2, View.ld_unit_zero (S := S1x64x4096) hz3]

/-- After a point in between the counts are `countsB` over the counts before. -/
theorem soutB0 (hc0 : ¬cond0_0 i) (hc1 : ¬cond0_1 i) :
    sout0_B_0 c i a1 h1 a2 h2 a3 h3 a4 h4 a5 h5 a6 h6 a7 h7 a8 h8 hc0 hc1 x cb s0 s1 = countsB cb x s0 := by
  unfold sout0_B_0
  rw [View.read_writes_eq_canon _ _ _ (scover0_B_0 c i a1 h1 a2 h2 a3 h3 a4 h4 a5 h5 a6 h6 a7 h7 a8 h8 hc0 hc1 x cb s0 s1)]
  unfold kernelRun0_B
  dsimp only
  sl_unfold_words
  rw [View.canon_unit_zero hz2]
  unfold countsB
  simp only [View.readAt_eq_ld, h1.read_unread, h2.read_unread, h7.read_unread, View.ld_unit_zero (S := S1x1024) hz2, View.ld_unit_zero (S := S1024x64) hz2, View.ld_unit_zero (S := S1x64x4096) hz3]

/-- After the first point the squared errors are `sseB` over zeros. -/
theorem soutA1 (hc0 : cond0_0 i) (hc1 : ¬cond0_1 i) :
    sout0_A_1 c i a1 h1 a2 h2 a3 h3 a4 h4 a5 h5 a6 h6 a7 h7 a8 h8 hc0 hc1 x cb = sseB cb x k0_pay8 := by
  unfold sout0_A_1
  rw [View.read_writes_eq_canon _ _ _ (scover0_A_1 c i a1 h1 a2 h2 a3 h3 a4 h4 a5 h5 a6 h6 a7 h7 a8 h8 hc0 hc1 x cb)]
  unfold kernelRun0_A
  dsimp only
  sl_unfold_words
  rw [View.canon_cons_unit_zero (S := S1x4096) hz2, View.readCov_unit_zero (S := S1x4096) _ hz2]
  unfold sseB
  simp only [View.readAt_eq_ld, h1.read_unread, h2.read_unread, View.ld_unit_zero (S := S1024x64) hz2, View.ld_unit_zero (S := S1x64x4096) hz3]

/-- After a point in between the squared errors are `sseB` over those before. -/
theorem soutB1 (hc0 : ¬cond0_0 i) (hc1 : ¬cond0_1 i) :
    sout0_B_1 c i a1 h1 a2 h2 a3 h3 a4 h4 a5 h5 a6 h6 a7 h7 a8 h8 hc0 hc1 x cb s0 s1 = sseB cb x s1 := by
  unfold sout0_B_1
  rw [View.read_writes_eq_canon _ _ _ (scover0_B_1 c i a1 h1 a2 h2 a3 h3 a4 h4 a5 h5 a6 h6 a7 h7 a8 h8 hc0 hc1 x cb s0 s1)]
  unfold kernelRun0_B
  dsimp only
  sl_unfold_words
  rw [View.canon_unit_zero hz2]
  unfold sseB
  simp only [View.readAt_eq_ld, h1.read_unread, h2.read_unread, h8.read_unread, View.ld_unit_zero (S := S1x4096) hz2, View.ld_unit_zero (S := S1024x64) hz2, View.ld_unit_zero (S := S1x64x4096) hz3]

/-- After the last point the squared errors are `sseB` over those before. -/
theorem soutC1 (hc0 : ¬cond0_0 i) (hc1 : cond0_1 i) :
    sout0_C_1 c i a1 h1 a2 h2 a3 h3 a4 h4 a5 h5 a6 h6 a7 h7 a8 h8 hc0 hc1 x cb s0 s1 = sseB cb x s1 := by
  unfold sout0_C_1
  rw [View.read_writes_eq_canon _ _ _ (scover0_C_1 c i a1 h1 a2 h2 a3 h3 a4 h4 a5 h5 a6 h6 a7 h7 a8 h8 hc0 hc1 x cb s0 s1)]
  unfold kernelRun0_C
  dsimp only
  sl_unfold_words
  rw [View.canon_unit_zero hz2]
  unfold sseB
  simp only [View.readAt_eq_ld, h1.read_unread, h2.read_unread, h8.read_unread, View.ld_unit_zero (S := S1x4096) hz2, View.ld_unit_zero (S := S1024x64) hz2, View.ld_unit_zero (S := S1x64x4096) hz3]

end

end Cert.KernelIdeal.Body
-- ==== Proof.KernelState.lean ====
module

public import proofs.«01_k».proof.Proof.KernelBody

/-! What the output blocks and the carried scratches hold after each grid point. -/

@[expose] public section

noncomputable section

namespace Cert.KernelIdeal.Body

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The tokens of grid point `t`: its block of `x`. -/
abbrev xBlk (c : Dev nD) (t : Fin cfg0.N) : Vec F S1x64x4096 .f32 := iblk m c 0 t
/-- The codebook as point `t` reads it. -/
abbrev cBlk (c : Dev nD) (t : Fin cfg0.N) : Vec F S1024x64 .f32 := iblk m c 1 t

/-- The counts after point `n`. -/
def countsAt (c : Dev nD) : (n : ℕ) → n < cfg0.N → Vec F S1x1024 .f32
  | 0, h => countsB (cBlk m c ⟨0, h⟩) (xBlk m c ⟨0, h⟩) k0_pay7
  | n + 1, h => countsB (cBlk m c ⟨n + 1, h⟩) (xBlk m c ⟨n + 1, h⟩) (countsAt c n (Nat.lt_of_succ_lt h))

/-- The squared errors after point `n`. -/
def sseAt (c : Dev nD) : (n : ℕ) → n < cfg0.N → Vec F S1x4096 .f32
  | 0, h => sseB (cBlk m c ⟨0, h⟩) (xBlk m c ⟨0, h⟩) k0_pay8
  | n + 1, h => sseB (cBlk m c ⟨n + 1, h⟩) (xBlk m c ⟨n + 1, h⟩) (sseAt c n (Nat.lt_of_succ_lt h))

/-- The carried scratches after each point. -/
theorem scratch_eq (c : Dev nD) : ∀ (n : ℕ) (h : n < cfg0.N),
    (outsAt0 m c n h).2.2.2.2.1 = countsAt m c n h ∧ (outsAt0 m c n h).2.2.2.2.2 = sseAt m c n h
  | 0, h => by
    have h1 : ¬(⟨0, h⟩ : Fin cfg0.N).val % 8 = 7 := by dsimp only; omega
    have e := outsAt0_A m c ⟨0, h⟩ (Nat.zero_mod 8) h1
    refine ⟨(congrArg (fun o => o.2.2.2.2.1) e).trans ?_, (congrArg (fun o => o.2.2.2.2.2) e).trans ?_⟩ <;> dsimp only
    · rw [soutA0]; rfl
    · rw [soutA1]; rfl
  | n + 1, h => by
    have hN : cfg0.N = 8 := N_0
    have h0 : ¬(⟨n + 1, h⟩ : Fin cfg0.N).val % 8 = 0 := by dsimp only; omega
    obtain ⟨e0, e1⟩ := scratch_eq c n (Nat.lt_of_succ_lt h)
    by_cases h1 : (⟨n + 1, h⟩ : Fin cfg0.N).val % 8 = 7
    · have e := outsAt0_C m c ⟨n + 1, h⟩ h0 h1
      refine ⟨(congrArg (fun o => o.2.2.2.2.1) e).trans ?_, (congrArg (fun o => o.2.2.2.2.2) e).trans ?_⟩ <;> dsimp only
      · rw [soutC0]; exact congrArg _ e0
      · rw [soutC1]; exact congrArg _ e1
    · have e := outsAt0_B m c ⟨n + 1, h⟩ h0 h1
      refine ⟨(congrArg (fun o => o.2.2.2.2.1) e).trans ?_, (congrArg (fun o => o.2.2.2.2.2) e).trans ?_⟩ <;> dsimp only
      · rw [soutB0]; exact congrArg _ e0
      · rw [soutB1]; exact congrArg _ e1

/-- The quantised block and the codes at every point. -/
theorem blocks_eq (c : Dev nD) (t : Fin cfg0.N) :
    (outsAt0 m c t.val t.isLt).1 = quantB (cBlk m c t) (xBlk m c t)
      ∧ (outsAt0 m c t.val t.isLt).2.1 = codesB (cBlk m c t) (xBlk m c t) := by
  by_cases h0 : t.val % 8 = 0
  · have e := outsAt0_A m c t h0 (by omega)
    refine ⟨(congrArg (fun o => o.1) e).trans ?_, (congrArg (fun o => o.2.1) e).trans ?_⟩ <;> dsimp only
    · rw [outA2]
    · rw [outA3]
  · by_cases h1 : t.val % 8 = 7
    · have e := outsAt0_C m c t h0 h1
      refine ⟨(congrArg (fun o => o.1) e).trans ?_, (congrArg (fun o => o.2.1) e).trans ?_⟩ <;> dsimp only
      · rw [outC2]
      · rw [outC3]
    · have e := outsAt0_B m c t h0 h1
      refine ⟨(congrArg (fun o => o.1) e).trans ?_, (congrArg (fun o => o.2.1) e).trans ?_⟩ <;> dsimp only
      · rw [outB2]
      · rw [outB3]

/-- The loss and the perplexity at the last point. -/
theorem scalars_eq (c : Dev nD) (n : ℕ) (h : n + 1 < cfg0.N) (h7 : (n + 1) % 8 = 7) :
    (outsAt0 m c (n + 1) h).2.2.1 = k0_pay5 (sseAt m c (n + 1) h)
      ∧ (outsAt0 m c (n + 1) h).2.2.2.1 = k0_pay6 (countsAt m c (n + 1) h) := by
  obtain ⟨e0, e1⟩ := scratch_eq m c n (Nat.lt_of_succ_lt h)
  have h0 : ¬(⟨n + 1, h⟩ : Fin cfg0.N).val % 8 = 0 := by dsimp only; omega
  have e := outsAt0_C m c ⟨n + 1, h⟩ h0 h7
  refine ⟨(congrArg (fun o => o.2.2.1) e).trans ?_, (congrArg (fun o => o.2.2.2.1) e).trans ?_⟩ <;> dsimp only
  · rw [outC4]; exact congrArg (fun s => k0_pay5 (sseB _ _ s)) e1
  · rw [outC5]; exact congrArg (fun s => k0_pay6 (countsB _ _ s)) e0

end Cert.KernelIdeal.Body
-- ==== Proof.KernelRun.lean ====
module

public import proofs.«01_k».proof.Proof.KernelState
public import Idealize.ShloMosaic.Lib.StableHlo.Run
public import Idealize.ShloMosaic.Lib.ValueIdxCoords

/-! What the kernel's result arrays hold after its run: block `b` of the quantised array and of the codes is what grid
point `b` stores, the two scalars are what the last point stores, and the host's reshapes copy them. -/

@[expose] public section

noncomputable section

namespace Cert.KernelIdeal.Body

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (ρ : Dev nD → PrngReg)

/-- The grid point of batch row `b`. -/
def pt (b : Fin 8) : Fin cfg0.N := ⟨b.val, lt_of_lt_of_eq b.isLt N_0.symm⟩

/-- The quantised array. -/
def quantArr (c : Dev nD) : Buf (Elt F) ((c : Thread nD τ).loc main_v0_0) := fun (i : S8x64x4096.Idx) =>
  quantB (cBlk m c (pt (i 0))) (xBlk m c (pt (i 0))) (ix3 (0 : Fin 1) (i 1 : Fin 64) (i 2 : Fin 4096))
/-- The codes, still with a middle axis of length one. -/
def codesArr (c : Dev nD) : Buf (Elt F) ((c : Thread nD τ).loc main_v0_1) := fun (i : S8x1x4096.Idx) =>
  codesB (cBlk m c (pt (i 0))) (xBlk m c (pt (i 0))) (ix3 (0 : Fin 1) (0 : Fin 1) (i 2 : Fin 4096))
/-- The loss. -/
def lossArr (c : Dev nD) : Buf (Elt F) ((c : Thread nD τ).loc main_v0_2) :=
  k0_pay5 (sseAt m c 7 (lt_of_lt_of_eq (by decide) N_0.symm))
/-- The perplexity. -/
def perpArr (c : Dev nD) : Buf (Elt F) ((c : Thread nD τ).loc main_v0_3) :=
  k0_pay6 (countsAt m c 7 (lt_of_lt_of_eq (by decide) N_0.symm))

/-- Block `t` of output 2 is row `t`. -/
theorem index2 : ∀ t : Fin cfg0.N, (cfg0.win 2).flush t = true ∧ win0_2.index t (0 : Fin 3) = t.val
    ∧ win0_2.index t (1 : Fin 3) = 0 ∧ win0_2.index t (2 : Fin 3) = 0 :=
  (by decide +kernel : ∀ t : Fin grid0.N, _)
/-- Block `t` of output 3 is row `t`. -/
theorem index3 : ∀ t : Fin cfg0.N, (cfg0.win 3).flush t = true ∧ win0_3.index t (0 : Fin 3) = t.val
    ∧ win0_3.index t (1 : Fin 3) = 0 ∧ win0_3.index t (2 : Fin 3) = 0 :=
  (by decide +kernel : ∀ t : Fin grid0.N, _)

/-- What point `t` writes back to output 2 is its block of `quantArr`. -/
theorem flushed2 (c : Dev nD) (t : Fin cfg0.N) :
    (dats m 0 c).flushed 2 t = ((cfg0.win 2).blk t).view.read (Elt F) (quantArr m c) := by
  show (cfg0.win 2).cut (grid0.coords t) ((dats m 0 c).after 2 t) = _
  rw [after0_2, (blocks_eq m c t).1]
  obtain ⟨-, e0, e1, e2⟩ := index2 t
  funext y
  have hy0 : (y 0).val < 1 := (y 0).isLt
  have hb0 : (((cfg0.win 2).blk t).view.emb y 0).val = win0_2.index t (0 : Fin 3) * 1 + 1 * (y 0).val := rfl
  have hb1 : (((cfg0.win 2).blk t).view.emb y 1).val = win0_2.index t (1 : Fin 3) * 64 + 1 * (y 1).val := rfl
  have hb2 : (((cfg0.win 2).blk t).view.emb y 2).val = win0_2.index t (2 : Fin 3) * 4096 + 1 * (y 2).val := rfl
  have hp : pt (((cfg0.win 2).blk t).view.emb y 0) = t := Fin.ext (by show (((cfg0.win 2).blk t).view.emb y 0).val = _; omega)
  show quantB (cBlk m c t) (xBlk m c t) ((cfg0.win 2).xinj (grid0.coords t) y)
    = quantB (cBlk m c (pt (((cfg0.win 2).blk t).view.emb y 0))) (xBlk m c (pt (((cfg0.win 2).blk t).view.emb y 0))) _
  rw [hp]
  congr 1
  funext a; apply Fin.ext
  match a with
  | ⟨0, _⟩ => show (y 0).val = 0; omega
  | ⟨1, _⟩ => show (y 1).val = (((cfg0.win 2).blk t).view.emb y 1).val; omega
  | ⟨2, _⟩ => show (y 2).val = (((cfg0.win 2).blk t).view.emb y 2).val; omega

/-- What point `t` writes back to output 3 is its block of `codesArr`. -/
theorem flushed3 (c : Dev nD) (t : Fin cfg0.N) :
    (dats m 0 c).flushed 3 t = ((cfg0.win 3).blk t).view.read (Elt F) (codesArr m c) := by
  show (cfg0.win 3).cut (grid0.coords t) ((dats m 0 c).after 3 t) = _
  rw [after0_3, (blocks_eq m c t).2]
  obtain ⟨-, e0, e1, e2⟩ := index3 t
  funext y
  have hy0 : (y 0).val < 1 := (y 0).isLt
  have hy1 : (y 1).val < 1 := (y 1).isLt
  have hb0 : (((cfg0.win 3).blk t).view.emb y 0).val = win0_3.index t (0 : Fin 3) * 1 + 1 * (y 0).val := rfl
  have hb2 : (((cfg0.win 3).blk t).view.emb y 2).val = win0_3.index t (2 : Fin 3) * 4096 + 1 * (y 2).val := rfl
  have hp : pt (((cfg0.win 3).blk t).view.emb y 0) = t := Fin.ext (by show (((cfg0.win 3).blk t).view.emb y 0).val = _; omega)
  show codesB (cBlk m c t) (xBlk m c t) ((cfg0.win 3).xinj (grid0.coords t) y)
    = codesB (cBlk m c (pt (((cfg0.win 3).blk t).view.emb y 0))) (xBlk m c (pt (((cfg0.win 3).blk t).view.emb y 0))) _
  rw [hp]
  congr 1
  funext a; apply Fin.ext
  match a with
  | ⟨0, _⟩ => show (y 0).val = 0; omega
  | ⟨1, _⟩ => show (y 1).val = 0; omega
  | ⟨2, _⟩ => show (y 2).val = (((cfg0.win 3).blk t).view.emb y 2).val; omega

/-- The last grid point. -/
def tLast : Fin cfg0.N := ⟨7, lt_of_lt_of_eq (by decide) N_0.symm⟩

/-- The scalar outputs' one block is their array. -/
theorem index45 : (∀ a : Fin 2, win0_4.index tLast a = 0) ∧ (∀ a : Fin 2, win0_5.index tLast a = 0) := by
  constructor <;> decide +kernel

/-- What the one write-back of output 4 writes is `lossArr`. -/
theorem flushed4 (c : Dev nD) (t : Fin cfg0.N) (hf : (cfg0.win 4).flush t = true) :
    (dats m 0 c).flushed 4 t = ((cfg0.win 4).blk t).view.read (Elt F) (lossArr m c) := by
  have hN : cfg0.N = 8 := N_0
  have h7 : t.val = 7 := by have := (flush0_4 t).mp hf; have := t.isLt; omega
  obtain rfl : t = tLast := Fin.ext h7
  show (cfg0.win 4).cut (grid0.coords tLast) ((dats m 0 c).after 4 tLast) = _
  rw [after0_4]
  have e := (scalars_eq m c 6 tLast.isLt rfl).1
  have hz' : (fun a => win0_4.index tLast a * main_v0_2.ty.shape.size a) = fun _ => 0 :=
    funext fun a => by rw [index45.1 a]; exact Nat.zero_mul _
  exact (congrArg ((cfg0.win 4).cut (grid0.coords tLast)) e).trans
    (Memref.read_access_unit_zero (Elt F) main_v0_2 hz' (fun a => by rw [congrFun hz' a]; simp) (lossArr m c)).symm

/-- What the one write-back of output 5 writes is `perpArr`. -/
theorem flushed5 (c : Dev nD) (t : Fin cfg0.N) (hf : (cfg0.win 5).flush t = true) :
    (dats m 0 c).flushed 5 t = ((cfg0.win 5).blk t).view.read (Elt F) (perpArr m c) := by
  have hN : cfg0.N = 8 := N_0
  have h7 : t.val = 7 := by have := (flush0_5 t).mp hf; have := t.isLt; omega
  obtain rfl : t = tLast := Fin.ext h7
  show (cfg0.win 5).cut (grid0.coords tLast) ((dats m 0 c).after 5 tLast) = _
  rw [after0_5]
  have e := (scalars_eq m c 6 tLast.isLt rfl).2
  have hz' : (fun a => win0_5.index tLast a * main_v0_3.ty.shape.size a) = fun _ => 0 :=
    funext fun a => by rw [index45.2 a]; exact Nat.zero_mul _
  exact (congrArg ((cfg0.win 5).cut (grid0.coords tLast)) e).trans
    (Memref.read_access_unit_zero (Elt F) main_v0_3 hz' (fun a => by rw [congrFun hz' a]; simp) (perpArr m c)).symm

/-- The quantised array after the run. -/
theorem final2 (c : Dev nD) : (dats m 0 c).arrAt 2 cfg0.N = quantArr m c :=
  (dats m 0 c).arrAt_eq_of_cover 2 _ (fun t _ => flushed2 m c t) fun (i : S8x64x4096.Idx) => by
    obtain ⟨hf, e0, e1, e2⟩ := index2 (pt (i 0))
    refine ⟨pt (i 0), hf, ?_⟩
    show i ∈ ((View.whole main_v0_0).slice (win0_2.rect (pt (i 0)))).set
    rw [View.set_slice_whole, Rect.mem_set_unit]
    have h1 : (i 1).val < 64 := (i 1).isLt
    have h2 : (i 2).val < 4096 := (i 2).isLt
    have h0 : (pt (i 0)).val = (i 0).val := rfl
    intro a
    match a with
    | ⟨0, _⟩ => show win0_2.index (pt (i 0)) (0 : Fin 3) * 1 ≤ (i 0).val ∧ (i 0).val < win0_2.index (pt (i 0)) (0 : Fin 3) * 1 + 1; omega
    | ⟨1, _⟩ => show win0_2.index (pt (i 0)) (1 : Fin 3) * 64 ≤ (i 1).val ∧ (i 1).val < win0_2.index (pt (i 0)) (1 : Fin 3) * 64 + 64; omega
    | ⟨2, _⟩ => show win0_2.index (pt (i 0)) (2 : Fin 3) * 4096 ≤ (i 2).val ∧ (i 2).val < win0_2.index (pt (i 0)) (2 : Fin 3) * 4096 + 4096; omega

/-- The codes after the run. -/
theorem final3 (c : Dev nD) : (dats m 0 c).arrAt 3 cfg0.N = codesArr m c :=
  (dats m 0 c).arrAt_eq_of_cover 3 _ (fun t _ => flushed3 m c t) fun (i : S8x1x4096.Idx) => by
    obtain ⟨hf, e0, e1, e2⟩ := index3 (pt (i 0))
    refine ⟨pt (i 0), hf, ?_⟩
    show i ∈ ((View.whole main_v0_1).slice (win0_3.rect (pt (i 0)))).set
    rw [View.set_slice_whole, Rect.mem_set_unit]
    have h1 : (i 1).val < 1 := (i 1).isLt
    have h2 : (i 2).val < 4096 := (i 2).isLt
    have h0 : (pt (i 0)).val = (i 0).val := rfl
    intro a
    match a with
    | ⟨0, _⟩ => show win0_3.index (pt (i 0)) (0 : Fin 3) * 1 ≤ (i 0).val ∧ (i 0).val < win0_3.index (pt (i 0)) (0 : Fin 3) * 1 + 1; omega
    | ⟨1, _⟩ => show win0_3.index (pt (i 0)) (1 : Fin 3) * 1 ≤ (i 1).val ∧ (i 1).val < win0_3.index (pt (i 0)) (1 : Fin 3) * 1 + 1; omega
    | ⟨2, _⟩ => show win0_3.index (pt (i 0)) (2 : Fin 3) * 4096 ≤ (i 2).val ∧ (i 2).val < win0_3.index (pt (i 0)) (2 : Fin 3) * 4096 + 4096; omega

/-- The loss after the run. -/
theorem final4 (c : Dev nD) : (dats m 0 c).arrAt 4 cfg0.N = lossArr m c :=
  (dats m 0 c).arrAt_eq_of_cover 4 _ (flushed4 m c) fun (i : S1x1.Idx) => by
    refine ⟨tLast, (flush0_4 tLast).mpr rfl, ?_⟩
    show i ∈ ((View.whole main_v0_2).slice (win0_4.rect tLast)).set
    rw [View.set_slice_whole, Rect.mem_set_unit]
    intro a
    have e := index45.1 a
    have h0 : (i 0).val < 1 := (i 0).isLt
    have h1 : (i 1).val < 1 := (i 1).isLt
    match a with
    | ⟨0, _⟩ => show win0_4.index tLast (0 : Fin 2) * 1 ≤ (i 0).val ∧ (i 0).val < win0_4.index tLast (0 : Fin 2) * 1 + 1; rw [index45.1]; omega
    | ⟨1, _⟩ => show win0_4.index tLast (1 : Fin 2) * 1 ≤ (i 1).val ∧ (i 1).val < win0_4.index tLast (1 : Fin 2) * 1 + 1; rw [index45.1]; omega

/-- The perplexity after the run. -/
theorem final5 (c : Dev nD) : (dats m 0 c).arrAt 5 cfg0.N = perpArr m c :=
  (dats m 0 c).arrAt_eq_of_cover 5 _ (flushed5 m c) fun (i : S1x1.Idx) => by
    refine ⟨tLast, (flush0_5 tLast).mpr rfl, ?_⟩
    show i ∈ ((View.whole main_v0_3).slice (win0_5.rect tLast)).set
    rw [View.set_slice_whole, Rect.mem_set_unit]
    intro a
    have h0 : (i 0).val < 1 := (i 0).isLt
    have h1 : (i 1).val < 1 := (i 1).isLt
    match a with
    | ⟨0, _⟩ => show win0_5.index tLast (0 : Fin 2) * 1 ≤ (i 0).val ∧ (i 0).val < win0_5.index tLast (0 : Fin 2) * 1 + 1; rw [index45.2]; omega
    | ⟨1, _⟩ => show win0_5.index tLast (1 : Fin 2) * 1 ≤ (i 1).val ∧ (i 1).val < win0_5.index tLast (1 : Fin 2) * 1 + 1; rw [index45.2]; omega

/-- The arrays as the host's reshapes find them. -/
theorem entry (c : Dev nD) (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr spec0 launch0.win.arr_inj c (V0 m c) _ w

/-- The run: the quantised array, the codes, the loss and the perplexity, and the arguments unchanged. -/
theorem run : θ_run defs (onTc (τ := τ) (main (F := F))) ⟨m, fun _ => 0, ρ⟩ fun r => ∀ c : Dev nD,
      r.2.mem ((c : Thread nD τ).loc main_v0_0) = quantArr m c
      ∧ r.2.mem ((c : Thread nD τ).loc main_v1) = shapeCast S8x4096 (codesArr m c) shapeCasts_S8x1x4096_S8x4096
      ∧ r.2.mem ((c : Thread nD τ).loc main_v2) = shapeCast S_ (lossArr m c) shapeCasts_S1x1_S_
      ∧ r.2.mem ((c : Thread nD τ).loc main_v3) = shapeCast S_ (perpArr m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => by
    refine ⟨((h c).1 2).trans (final2 m c), ((h c).2 main_v1 (by decide)).trans ?_, ((h c).2 main_v2 (by decide)).trans ?_,
      ((h c).2 main_v3 (by decide)).trans ?_,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩
    · show StableHlo.after hostOps1 _ _ = _
      after_results
      exact congrArg (fun v => shapeCast S8x4096 v shapeCasts_S8x1x4096_S8x4096) ((entry m c 3).trans (final3 m c))
    · show StableHlo.after hostOps1 _ _ = _
      after_results
      exact congrArg (fun v => shapeCast S_ v shapeCasts_S1x1_S_) ((entry m c 4).trans (final4 m c))
    · show StableHlo.after hostOps1 _ _ = _
      after_results
      exact congrArg (fun v => shapeCast S_ v shapeCasts_S1x1_S_) ((entry m c 5).trans (final5 m c))) (run_main m ρ)

end Cert.KernelIdeal.Body
-- ==== Proof.Math.lean ====
/- The mathematics of one nearest-row search: squared distances, the first least entry of a finite family, and the
   extended-real folds that find it. -/
module

public import Idealize.ShloMosaic.PureOps.Ideal

@[expose] public section

noncomputable section

namespace Cert.VQ

/-! ## Squared distances -/

/-- The squared distance of two vectors. -/
def sq {n : ℕ} (a c : Fin n → ℝ) : ℝ := ∑ d, (a d - c d) * (a d - c d)

/-- A squared distance is not negative. -/
theorem sq_nonneg {n : ℕ} (a c : Fin n → ℝ) : 0 ≤ sq a c := Finset.sum_nonneg fun _ _ => mul_self_nonneg _

/-- The squared distance multiplied out, the doubled scalar product a product with the doubled row. -/
theorem sq_expand {n : ℕ} (a c : Fin n → ℝ) :
    (∑ d, a d * a d) + (∑ d, c d * c d) - ∑ d, (c d + c d) * a d = sq a c := by
  rw [sq, ← Finset.sum_add_distrib, ← Finset.sum_sub_distrib]
  exact Finset.sum_congr rfl fun d _ => by ring

/-- The squared distance multiplied out, twice the scalar product taken off. -/
theorem sq_expand_two {n : ℕ} (a c : Fin n → ℝ) :
    (∑ d, a d * a d) + (∑ d, c d * c d) - 2 * ∑ d, a d * c d = sq a c := by
  rw [sq, Finset.mul_sum, ← Finset.sum_add_distrib, ← Finset.sum_sub_distrib]
  exact Finset.sum_congr rfl fun d _ => by ring

/-- A positive number times the reciprocal of its root is its root. -/
theorem mul_inv_sqrt {r : ℝ} (h : 0 < r) : r * (√r)⁻¹ = √r := by
  have h' := Real.sqrt_pos.2 h
  field_simp
  exact (Real.sq_sqrt h.le).symm

/-! ## The first least entry -/

/-- The entry at `k` is least, and no earlier entry equals it. -/
def IsBest {n : ℕ} (f : Fin n → ℝ) (k : Fin n) : Prop := (∀ j, f k ≤ f j) ∧ ∀ j, j < k → f k < f j

/-- There is at most one first least entry. -/
theorem IsBest.unique {n : ℕ} {f : Fin n → ℝ} {k l : Fin n} (hk : IsBest f k) (hl : IsBest f l) : k = l := by
  rcases lt_trichotomy k l with h | h | h
  · exact absurd (hl.2 k h) (hk.1 l).not_gt
  · exact h
  · exact absurd (hk.2 l h) (hl.1 k).not_gt

/-- A family that is not empty has a first least entry. -/
theorem exists_isBest {n : ℕ} [NeZero n] (f : Fin n → ℝ) : ∃ k, IsBest f k := by
  classical
  obtain ⟨m, hm⟩ := Finite.exists_min f
  let s : Finset (Fin n) := Finset.univ.filter fun k => ∀ j, f k ≤ f j
  have hs : s.Nonempty := ⟨m, Finset.mem_filter.2 ⟨Finset.mem_univ _, hm⟩⟩
  have hmin := (Finset.mem_filter.1 (s.min'_mem hs)).2
  refine ⟨s.min' hs, hmin, fun j hj => lt_of_le_of_ne (hmin j) fun e => ?_⟩
  exact absurd (s.min'_le j (Finset.mem_filter.2 ⟨Finset.mem_univ _, fun i => e ▸ hmin i⟩)) hj.not_ge

/-- The position of the first least entry. -/
def best {n : ℕ} [NeZero n] (f : Fin n → ℝ) : Fin n := (exists_isBest f).choose

/-- `best` is the first least entry. -/
theorem best_spec {n : ℕ} [NeZero n] (f : Fin n → ℝ) : IsBest f (best f) := (exists_isBest f).choose_spec

/-- The least of a family, folded from the top, is its entry at `best`. -/
theorem fold_min_eq {n : ℕ} [NeZero n] (f : Fin n → ℝ) :
    Finset.univ.fold min (⊤ : EReal) (fun k => (f k : EReal)) = (f (best f) : EReal) := by
  refine le_antisymm ((Finset.fold_min_le _).2 (Or.inr ⟨best f, Finset.mem_univ _, le_rfl⟩)) ?_
  exact (Finset.le_fold_min _).2 ⟨le_top, fun k _ => EReal.coe_le_coe_iff.2 ((best_spec f).1 k)⟩

/-- The least of the positions at which the least entry stands, any other counted as `b` beyond them all, is `best`. -/
theorem fold_min_index {n : ℕ} [NeZero n] (f : Fin n → ℝ) (b : ℝ) (hb : (n : ℝ) ≤ b) :
    Finset.univ.fold min (⊤ : EReal) (fun k : Fin n => if f k = f (best f) then ((k.val : ℝ) : EReal) else (b : EReal))
      = (((best f).val : ℝ) : EReal) := by
  refine le_antisymm ((Finset.fold_min_le _).2 (Or.inr ⟨best f, Finset.mem_univ _, by rw [if_pos rfl]⟩)) ?_
  refine (Finset.le_fold_min _).2 ⟨le_top, fun k _ => ?_⟩
  split_ifs with h
  · refine EReal.coe_le_coe_iff.2 (Nat.cast_le.2 ?_)
    by_contra hlt
    exact absurd h (((best_spec f).2 k (not_le.1 hlt)).ne')
  · exact EReal.coe_le_coe_iff.2 (le_trans (Nat.cast_le.2 (best f).isLt.le) hb)

/-! ## Sums in the extended reals -/

/-- A finite sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.VQ
-- ==== Proof.Consts.lean ====
/- The constants the two programs name, as extended reals. -/
module

public import Idealize.ShloMosaic.PureOps.Ideal

@[expose] public section

namespace Cert.VQ

open Idealize.ShloMosaic

/-- The pattern of positive infinity. -/
theorem bits_inf : Ideal.ofBits .f32 0x7F800000#32 = ⊤ := by simp [Ideal.ofBits, Ideal.ieee]

/-- The pattern of 1024. -/
theorem bits_1024 : Ideal.ofBits .f32 0x44800000#32 = ((1024 : ℝ) : EReal) := by
  simp [Ideal.ofBits, Ideal.ieee]; rw [← EReal.coe_mul]; norm_num

/-- The pattern of 2. -/
theorem bits_two : Ideal.ofBits .f32 0x40000000#32 = ((2 : ℝ) : EReal) := by
  simp [Ideal.ofBits, Ideal.ieee]; rw [← EReal.coe_mul]; norm_num

/-- The least normal number, below which no squared distance may lie. -/
noncomputable def tiny : ℝ := (2 : ℝ) ^ (-126 : ℤ)

/-- It is positive. -/
theorem tiny_pos : 0 < tiny := zpow_pos (by norm_num) _

/-- The pattern of the least normal number. -/
theorem bits_tiny : Ideal.ofBits .f32 0x00800000#32 = (tiny : EReal) := by
  simp [tiny, Ideal.ofBits, Ideal.ieee]; rw [← EReal.coe_mul]; norm_num

/-- The pattern of one part in 2²¹. -/
theorem bits_inv_elems : Ideal.ofBits .f32 0x35000000#32 = ((1 / 2097152 : ℝ) : EReal) := by
  simp [Ideal.ofBits, Ideal.ieee]; rw [← EReal.coe_mul]; norm_num

/-- The pattern of 2²¹, the number of elements. -/
theorem bits_elems : Ideal.ofBits .f32 0x4A000000#32 = ((2097152 : ℝ) : EReal) := by
  simp [Ideal.ofBits, Ideal.ieee]; rw [← EReal.coe_mul]; norm_num

/-- The pattern of one part in 32768. -/
theorem bits_inv_tokens : Ideal.ofBits .f32 0x38000000#32 = ((1 / 32768 : ℝ) : EReal) := by
  simp [Ideal.ofBits, Ideal.ieee]; rw [← EReal.coe_mul]; norm_num

/-- The pattern of 32768, the number of tokens. -/
theorem bits_tokens : Ideal.ofBits .f32 0x47000000#32 = ((32768 : ℝ) : EReal) := by
  simp [Ideal.ofBits, Ideal.ieee]; rw [← EReal.coe_mul]; norm_num

end Cert.VQ
-- ==== Proof.Spec.lean ====
/- What both programs compute, in real arithmetic: each token's nearest row, the squared errors, the counts and the
   perplexity; and what is asked of the inputs. -/
module

public import proofs.«01_k».proof.Proof.Math
public import proofs.«01_k».proof.Proof.Consts
public import Idealize.ShloMosaic.Lib.Pointwise

@[expose] public section

noncomputable section

namespace Cert.VQ

open Idealize.ShloMosaic

/-- The distance of a token to every row. -/
def dst (C : Fin 1024 → Fin 64 → ℝ) (a : Fin 64 → ℝ) (k : Fin 1024) : ℝ := √(sq a (C k))

/-- The row nearest a token, the first such. -/
def code (C : Fin 1024 → Fin 64 → ℝ) (a : Fin 64 → ℝ) : Fin 1024 := best (dst C a)

/-- A token's squared distance to its nearest row. -/
def err (C : Fin 1024 → Fin 64 → ℝ) (a : Fin 64 → ℝ) : ℝ := sq a (C (code C a))

/-- One where row `k` is a token's nearest, zero elsewhere. -/
def hit (C : Fin 1024 → Fin 64 → ℝ) (a : Fin 64 → ℝ) (k : Fin 1024) : ℝ := if k = code C a then 1 else 0

/-- The mean over all elements of the squared difference between the tokens and their nearest rows. -/
def lossOf (C : Fin 1024 → Fin 64 → ℝ) (X : Fin 8 → Fin 4096 → Fin 64 → ℝ) : ℝ :=
  (∑ b, ∑ t, err C (X b t)) * (1 / 2097152)

/-- The share of the tokens whose nearest row is `k`. -/
def shareOf (C : Fin 1024 → Fin 64 → ℝ) (X : Fin 8 → Fin 4096 → Fin 64 → ℝ) (k : Fin 1024) : ℝ :=
  (∑ b, ∑ t, hit C (X b t) k) * (1 / 32768)

/-- The perplexity: the exponential of the entropy of the shares. -/
def perpOf (C : Fin 1024 → Fin 64 → ℝ) (X : Fin 8 → Fin 4096 → Fin 64 → ℝ) : EReal :=
  Ideal.exp (-(∑ k, (shareOf C X k : EReal) * Ideal.log ((shareOf C X k : EReal) + Ideal.ofBits .f32 0x2EDBE6FF#32)))

/-- The inputs `x` and `cb` hold the real numbers `X` and `C`, and every token is at least `tiny` from every row, squared. -/
structure Apart (x : (⟨3, ![8, 64, 4096]⟩ : Shape).Idx → EReal) (cb : (⟨2, ![1024, 64]⟩ : Shape).Idx → EReal)
    (X : Fin 8 → Fin 4096 → Fin 64 → ℝ) (C : Fin 1024 → Fin 64 → ℝ) : Prop where
  tokens : ∀ b t d, x (ix3 b d t) = (X b t d : EReal)
  rows : ∀ k d, cb (ix2 k d) = (C k d : EReal)
  far : ∀ b t k, tiny ≤ sq (X b t) (C k)

end Cert.VQ
-- ==== Proof.KernelRead.lean ====
/- Each stretch of the kernel's arithmetic read at an index, over the extended reals. -/
module

public import proofs.«01_k».proof.Proof.KernelState
public import Idealize.ShloMosaic.Lib.Pointwise
public import Idealize.ShloMosaic.Lib.StableHlo.Predicate

@[expose] public section

noncomputable section

namespace Cert.KernelIdeal.Value

open Cert.KernelIdeal Cert.KernelIdeal.Gen Cert.KernelIdeal.Body Idealize.ShloMosaic

/-- The row numbers: row `k` holds `k`. -/
theorem rows_apply (k : Fin 1024) (t : Fin 4096) : k0_pay9 (F := Ideal) (ix2 k t) = ((k.val : ℝ) : EReal) := by
  have h : ((BitVec.ofNat 32 k.val).toInt : ℝ) = (k.val : ℝ) := by
    rw [StableHlo.Predicate.toInt_ofNat_small _ (by omega)]; rfl
  refine Eq.trans ?_ (congrArg (fun r : ℝ => (r : EReal)) h)
  unfold k0_pay9
  pointwise
  rfl

/-- The distance before its root, kept from below at the least normal number, times the reciprocal of its root. -/
theorem dist_apply (cb : Vec Ideal S1024x64 .f32) (x : Vec Ideal S1x64x4096 .f32) (k : Fin 1024) (t : Fin 4096) :
    k0_pay10 (F := Ideal) cb x (ix2 k t)
      = max ((∑ d : Fin 64, x (ix3 0 d t) * x (ix3 0 d t)) + (∑ d : Fin 64, cb (ix2 k d) * cb (ix2 k d))
            - ∑ d : Fin 64, (cb (ix2 k d) + cb (ix2 k d)) * x (ix3 0 d t)) (Ideal.ofBits .f32 0x00800000#32)
        * Ideal.rsqrt (max ((∑ d : Fin 64, x (ix3 0 d t) * x (ix3 0 d t)) + (∑ d : Fin 64, cb (ix2 k d) * cb (ix2 k d))
            - ∑ d : Fin 64, (cb (ix2 k d) + cb (ix2 k d)) * x (ix3 0 d t)) (Ideal.ofBits .f32 0x00800000#32)) := by
  pointwise [k0_pay10]

/-- The least distance of a token. -/
theorem least_apply (cb : Vec Ideal S1024x64 .f32) (x : Vec Ideal S1x64x4096 .f32) (t : Fin 4096) :
    k0_pay11 (F := Ideal) cb x (ix2 0 t)
      = Finset.univ.fold min (Ideal.ofBits .f32 0x7F800000#32) fun k : Fin 1024 => k0_pay10 cb x (ix2 k t) := by
  unfold k0_pay11
  generalize k0_pay10 cb x = v
  pointwise

/-- The first row at which the least distance stands, as a number. -/
theorem first_apply (cb : Vec Ideal S1024x64 .f32) (x : Vec Ideal S1x64x4096 .f32) (t : Fin 4096) :
    k0_pay12 (F := Ideal) cb x (ix2 0 t)
      = Finset.univ.fold min (Ideal.ofBits .f32 0x7F800000#32) fun k : Fin 1024 =>
          if k0_pay10 cb x (ix2 k t) = k0_pay11 cb x (ix2 0 t) then k0_pay9 (F := Ideal) (ix2 k t)
          else Ideal.ofBits .f32 0x44800000#32 := by
  unfold k0_pay12
  generalize k0_pay10 cb x = v, k0_pay11 cb x = u, k0_pay9 (F := Ideal) = w
  pointwise

/-- The selector of the positions at which `w` holds what `u` holds for the token. -/
def selectorOf (w : FVec Ideal S1024x4096 .f32) (u : FVec Ideal S1x4096 .f32) : FVec Ideal S1024x4096 .bf16 :=
  truncf .bf16 (sitofp .f32 (extui 32 (cmpf .oeq w (broadcastTo S1024x4096 u broadcasts_S1x4096_S1024x4096)) natLt_1_32)) bitsLt_bf16_f32

/-- A selector is one where the two agree and zero elsewhere. -/
theorem selectorOf_apply (w : FVec Ideal S1024x4096 .f32) (u : FVec Ideal S1x4096 .f32) (k : Fin 1024) (t : Fin 4096) :
    selectorOf w u (ix2 k t) = if w (ix2 k t) = u (ix2 0 t) then (1 : EReal) else 0 := by
  have h : broadcastTo S1024x4096 u broadcasts_S1x4096_S1024x4096 (ix2 k t) = u (ix2 0 t) := by pointwise
  rw [← h]
  generalize hb : broadcastTo S1024x4096 u broadcasts_S1x4096_S1024x4096 = b
  have e : selectorOf w u (ix2 k t)
      = (((BitVec.setWidth 32 (BitVec.ofBool (decide (w (ix2 k t) = b (ix2 k t))))).toInt : ℝ) : EReal) := by
    subst hb; rfl
  rw [e]
  by_cases q : w (ix2 k t) = b (ix2 k t) <;> simp [q]

/-- The kernel's selector compares the row numbers with the first row. -/
theorem selector_eq (cb : Vec Ideal S1024x64 .f32) (x : Vec Ideal S1x64x4096 .f32) :
    k0_pay13 (F := Ideal) cb x = selectorOf (k0_pay9 (F := Ideal)) (k0_pay12 cb x) := rfl

/-- The quantised block: the selected rows, as a product with the selector. -/
theorem quantB_apply (cb : Vec Ideal S1024x64 .f32) (x : Vec Ideal S1x64x4096 .f32) (d : Fin 64) (t : Fin 4096) :
    quantB (F := Ideal) cb x (ix3 0 d t) = ∑ k : Fin 1024, cb (ix2 k d) * k0_pay13 (F := Ideal) cb x (ix2 k t) := by
  unfold quantB k0_pay1 k0_pay14
  generalize k0_pay13 cb x = v
  pointwise

/-- The block of codes: the first row as a word. -/
theorem codesB_apply (cb : Vec Ideal S1024x64 .f32) (x : Vec Ideal S1x64x4096 .f32) (t : Fin 4096) :
    codesB (F := Ideal) cb x (ix3 0 0 t) = Ideal.fptosi 32 (k0_pay12 (F := Ideal) cb x (ix2 0 t)) := by
  unfold codesB k0_pay2
  generalize k0_pay12 cb x = v
  pointwise
  rfl

/-- The counts: what was there plus the selector summed along the tokens. -/
theorem countsB_apply (cb : Vec Ideal S1024x64 .f32) (x : Vec Ideal S1x64x4096 .f32) (s : Vec Ideal S1x1024 .f32) (k : Fin 1024) :
    countsB (F := Ideal) cb x s (ix2 0 k) = s (ix2 0 k) + ∑ t : Fin 4096, k0_pay13 (F := Ideal) cb x (ix2 k t) := by
  unfold countsB k0_pay3
  generalize k0_pay13 cb x = v
  pointwise

/-- Squares added to what was there. -/
theorem addSquares_apply (v : FVec Ideal S1x4096 .f32) (s : Vec Ideal S1x4096 .f32) (t : Fin 4096) :
    k0_pay4 (F := Ideal) v s (ix2 0 t) = s (ix2 0 t) + v (ix2 0 t) * v (ix2 0 t) := by
  unfold k0_pay4
  exact congrFun (shapeCast_id _ _) _

/-- The squared errors: what was there plus the least distance squared. -/
theorem sseB_apply (cb : Vec Ideal S1024x64 .f32) (x : Vec Ideal S1x64x4096 .f32) (s : Vec Ideal S1x4096 .f32) (t : Fin 4096) :
    sseB (F := Ideal) cb x s (ix2 0 t) = s (ix2 0 t) + k0_pay11 (F := Ideal) cb x (ix2 0 t) * k0_pay11 (F := Ideal) cb x (ix2 0 t) := by
  unfold sseB
  exact addSquares_apply _ _ _

/-- The counts start at zero. -/
theorem counts0_apply (k : Fin 1024) : k0_pay7 (F := Ideal) (ix2 0 k) = 0 := by
  pointwise [k0_pay7]

/-- The squared errors start at zero. -/
theorem sse0_apply (t : Fin 4096) : k0_pay8 (F := Ideal) (ix2 0 t) = 0 := by
  pointwise [k0_pay8]

/-- The loss: the squared errors summed, times a constant. -/
theorem loss_apply (s : Vec Ideal S1x4096 .f32) :
    k0_pay5 (F := Ideal) s (ix2 0 0) = (∑ t : Fin 4096, s (ix2 0 t)) * Ideal.ofBits .f32 0x35000000#32 := by
  pointwise [k0_pay5]

/-- The perplexity of the counts. -/
theorem perp_apply (n : Vec Ideal S1x1024 .f32) :
    k0_pay6 (F := Ideal) n (ix2 0 0)
      = Ideal.exp (0 - ∑ k : Fin 1024, n (ix2 0 k) * Ideal.ofBits .f32 0x38000000#32
          * Ideal.log (n (ix2 0 k) * Ideal.ofBits .f32 0x38000000#32 + Ideal.ofBits .f32 0x2EDBE6FF#32)) := by
  pointwise [k0_pay6]

end Cert.KernelIdeal.Value
-- ==== Proof.KernelBlock.lean ====
/- What one block of the kernel computes when its tokens and the codebook are finite and every distance is at least the
   least normal number: the row nearest each token, its number, and what it adds to the counts and the squared errors. -/
module

public import proofs.«01_k».proof.Proof.Spec
public import proofs.«01_k».proof.Proof.KernelRead

@[expose] public section

noncomputable section

namespace Cert.KernelIdeal.Value

open Cert.VQ Cert.KernelIdeal Cert.KernelIdeal.Gen Cert.KernelIdeal.Body Idealize.ShloMosaic

variable {cb : Vec Ideal S1024x64 .f32} {x : Vec Ideal S1x64x4096 .f32}
variable {C : Fin 1024 → Fin 64 → ℝ} {X : Fin 4096 → Fin 64 → ℝ}

/-- The distances of a block: the root of the squared distance of every row and token. -/
theorem dist_val (hC : ∀ k d, cb (ix2 k d) = (C k d : EReal)) (hX : ∀ t d, x (ix3 0 d t) = (X t d : EReal))
    (hT : ∀ t k, tiny ≤ sq (X t) (C k)) (k : Fin 1024) (t : Fin 4096) :
    k0_pay10 (F := Ideal) cb x (ix2 k t) = (dst C (X t) k : EReal) := by
  have e : (∑ d : Fin 64, x (ix3 0 d t) * x (ix3 0 d t)) + (∑ d : Fin 64, cb (ix2 k d) * cb (ix2 k d))
      - ∑ d : Fin 64, (cb (ix2 k d) + cb (ix2 k d)) * x (ix3 0 d t) = (sq (X t) (C k) : EReal) := by
    simp only [hC, hX, ← EReal.coe_mul, ← EReal.coe_add, ← coe_sum, ← EReal.coe_sub, sq_expand]
  have p : 0 < sq (X t) (C k) := lt_of_lt_of_le tiny_pos (hT t k)
  rw [dist_apply, e, bits_tiny, max_eq_left (EReal.coe_le_coe_iff.2 (hT t k)), Ideal.rsqrt_coe, if_neg p.not_gt, if_neg p.ne',
    ← EReal.coe_mul, mul_inv_sqrt p]
  rfl

/-- The least distance of a token is that of its nearest row. -/
theorem least_val (hC : ∀ k d, cb (ix2 k d) = (C k d : EReal)) (hX : ∀ t d, x (ix3 0 d t) = (X t d : EReal))
    (hT : ∀ t k, tiny ≤ sq (X t) (C k)) (t : Fin 4096) :
    k0_pay11 (F := Ideal) cb x (ix2 0 t) = (dst C (X t) (code C (X t)) : EReal) := by
  rw [least_apply, bits_inf]
  simp only [dist_val hC hX hT]
  exact fold_min_eq (dst C (X t))

/-- The first row of a token is its nearest row. -/
theorem first_val (hC : ∀ k d, cb (ix2 k d) = (C k d : EReal)) (hX : ∀ t d, x (ix3 0 d t) = (X t d : EReal))
    (hT : ∀ t k, tiny ≤ sq (X t) (C k)) (t : Fin 4096) :
    k0_pay12 (F := Ideal) cb x (ix2 0 t) = (((code C (X t)).val : ℝ) : EReal) := by
  rw [first_apply, bits_inf, bits_1024]
  simp only [dist_val hC hX hT, least_val hC hX hT, rows_apply, EReal.coe_eq_coe_iff]
  exact fold_min_index (dst C (X t)) 1024 (by norm_num)

/-- The selector is one at a token's nearest row and zero at every other. -/
theorem selector_val (hC : ∀ k d, cb (ix2 k d) = (C k d : EReal)) (hX : ∀ t d, x (ix3 0 d t) = (X t d : EReal))
    (hT : ∀ t k, tiny ≤ sq (X t) (C k)) (k : Fin 1024) (t : Fin 4096) :
    k0_pay13 (F := Ideal) cb x (ix2 k t) = if k = code C (X t) then (1 : EReal) else 0 := by
  rw [selector_eq, selectorOf_apply, rows_apply, first_val hC hX hT]
  simp only [EReal.coe_eq_coe_iff, Nat.cast_inj, Fin.val_inj]

/-- The quantised block holds each token's nearest row. -/
theorem quantB_val (hC : ∀ k d, cb (ix2 k d) = (C k d : EReal)) (hX : ∀ t d, x (ix3 0 d t) = (X t d : EReal))
    (hT : ∀ t k, tiny ≤ sq (X t) (C k)) (d : Fin 64) (t : Fin 4096) :
    quantB (F := Ideal) cb x (ix3 0 d t) = (C (code C (X t)) d : EReal) := by
  rw [quantB_apply]
  simp only [selector_val hC hX hT, mul_ite, mul_one, mul_zero]
  rw [Finset.sum_ite_eq' Finset.univ, if_pos (Finset.mem_univ _), hC]

/-- A row number below 1024, as a number, converts to the word that holds it. -/
theorem fptosi_row (k : Fin 1024) : Ideal.fptosi 32 ((k.val : ℝ) : EReal) = BitVec.ofNat 32 k.val := by
  have h : Ideal.toIntClamped (-(2 ^ (32 - 1) : ℕ)) ((2 ^ (32 - 1) : ℕ) - 1) ((k.val : ℝ) : EReal) = (k.val : ℤ) := by
    rw [Ideal.toIntClamped_coe, if_pos (Nat.cast_nonneg _), Int.floor_natCast]
    have := k.isLt
    omega
  rw [Ideal.fptosi, h, BitVec.ofInt_natCast]

/-- The block of codes holds the number of each token's nearest row. -/
theorem codesB_val (hC : ∀ k d, cb (ix2 k d) = (C k d : EReal)) (hX : ∀ t d, x (ix3 0 d t) = (X t d : EReal))
    (hT : ∀ t k, tiny ≤ sq (X t) (C k)) (t : Fin 4096) :
    codesB (F := Ideal) cb x (ix3 0 0 t) = BitVec.ofNat 32 (code C (X t)).val := by
  rw [codesB_apply, first_val hC hX hT, fptosi_row]

/-- A block adds to each row's count the number of its tokens nearest that row. -/
theorem countsB_val (hC : ∀ k d, cb (ix2 k d) = (C k d : EReal)) (hX : ∀ t d, x (ix3 0 d t) = (X t d : EReal))
    (hT : ∀ t k, tiny ≤ sq (X t) (C k)) (s : Vec Ideal S1x1024 .f32) (k : Fin 1024) :
    countsB (F := Ideal) cb x s (ix2 0 k) = s (ix2 0 k) + ((∑ t : Fin 4096, hit C (X t) k : ℝ) : EReal) := by
  rw [countsB_apply, coe_sum]
  refine congrArg _ (Finset.sum_congr rfl fun t _ => ?_)
  rw [selector_val hC hX hT, hit]
  split_ifs <;> rfl

/-- A block adds each token's squared distance to its nearest row. -/
theorem sseB_val (hC : ∀ k d, cb (ix2 k d) = (C k d : EReal)) (hX : ∀ t d, x (ix3 0 d t) = (X t d : EReal))
    (hT : ∀ t k, tiny ≤ sq (X t) (C k)) (s : Vec Ideal S1x4096 .f32) (t : Fin 4096) :
    sseB (F := Ideal) cb x s (ix2 0 t) = s (ix2 0 t) + (err C (X t) : EReal) := by
  rw [sseB_apply, least_val hC hX hT, ← EReal.coe_mul, dst, Real.mul_self_sqrt (sq_nonneg _ _), err]

end Cert.KernelIdeal.Value
-- ==== Proof.KernelValue.lean ====
/- What the kernel's result arrays hold when the inputs are finite and apart. -/
module

public import proofs.«01_k».proof.Proof.KernelRun
public import proofs.«01_k».proof.Proof.KernelBlock

@[expose] public section

noncomputable section

namespace Cert.KernelIdeal.Value

open Cert.VQ Cert.KernelIdeal Cert.KernelIdeal.Gen Cert.KernelIdeal.Body Idealize.ShloMosaic Idealize.ShloMosaic.TcCoe Idealize.SL.Sem

/-- Block `t` of `x` is row `t`, and the one block of the codebook is the whole of it. -/
theorem index01 : ∀ t : Fin cfg0.N, (win0_0.index t (0 : Fin 3) = t.val ∧ win0_0.index t (1 : Fin 3) = 0
    ∧ win0_0.index t (2 : Fin 3) = 0) ∧ win0_1.index t (0 : Fin 2) = 0 ∧ win0_1.index t (1 : Fin 2) = 0 :=
  (by decide +kernel : ∀ t : Fin grid0.N, _)

section Blocks

variable {F : FTy → Type} [FloatOps F] (m : (ℓ : Loc nD τ sig) → Buf (Elt F) ℓ)

/-- A block of `x` at a token and a coordinate. -/
theorem xBlk_apply (c : Dev nD) (b : Fin 8) (d : Fin 64) (t : Fin 4096) :
    xBlk m c (pt b) (ix3 0 d t) = m ((c : Thread nD τ).loc main_arg0) (ix3 b d t) := by
  show V m c main_arg0 (((cfg0.win 0).blk (pt b)).view.emb (ix3 0 d t)) = _
  rw [V_main_arg0]
  obtain ⟨⟨e0, e1, e2⟩, -, -⟩ := index01 (pt b)
  refine congrArg (m ((c : Thread nD τ).loc main_arg0)) (funext fun a => Fin.ext ?_)
  match a with
  | ⟨0, _⟩ =>
    show win0_0.index (pt b) (0 : Fin 3) * 1 + 1 * 0 = b.val
    rw [e0]; show b.val * 1 + 1 * 0 = b.val; omega
  | ⟨1, _⟩ =>
    show win0_0.index (pt b) (1 : Fin 3) * 64 + 1 * d.val = d.val
    omega
  | ⟨2, _⟩ =>
    show win0_0.index (pt b) (2 : Fin 3) * 4096 + 1 * t.val = t.val
    omega

/-- The block of the codebook at a row and a coordinate. -/
theorem cBlk_apply (c : Dev nD) (t : Fin cfg0.N) (k : Fin 1024) (d : Fin 64) :
    cBlk m c t (ix2 k d) = m ((c : Thread nD τ).loc main_arg1) (ix2 k d) := by
  show V m c main_arg1 (((cfg0.win 1).blk t).view.emb (ix2 k d)) = _
  rw [V_main_arg1]
  obtain ⟨-, e0, e1⟩ := index01 t
  refine congrArg (m ((c : Thread nD τ).loc main_arg1)) (funext fun a => Fin.ext ?_)
  match a with
  | ⟨0, _⟩ =>
    show win0_1.index t (0 : Fin 2) * 1024 + 1 * k.val = k.val
    omega
  | ⟨1, _⟩ =>
    show win0_1.index t (1 : Fin 2) * 64 + 1 * d.val = d.val
    omega

end Blocks

variable (m : (ℓ : Loc nD τ sig) → Buf (Elt Ideal) ℓ) (c : Dev nD)
variable {X : Fin 8 → Fin 4096 → Fin 64 → ℝ} {C : Fin 1024 → Fin 64 → ℝ}

/-- The grid points up to the next one: those up to this one, and the next. -/
theorem sum_upto_succ (n : ℕ) (h : n + 1 < 8) (f : Fin 8 → ℝ) :
    ∑ b ∈ Finset.univ.filter (fun b : Fin 8 => b.val ≤ n + 1), f b
      = (∑ b ∈ Finset.univ.filter (fun b : Fin 8 => b.val ≤ n), f b) + f ⟨n + 1, h⟩ := by
  have e : Finset.univ.filter (fun b : Fin 8 => b.val ≤ n + 1)
      = insert ⟨n + 1, h⟩ (Finset.univ.filter fun b : Fin 8 => b.val ≤ n) := by
    ext b
    simp only [Finset.mem_filter, Finset.mem_univ, true_and, Finset.mem_insert, Fin.ext_iff]
    omega
  rw [e, Finset.sum_insert (by simp), add_comm]

/-- Up to the last grid point is everywhere. -/
theorem upto_last : Finset.univ.filter (fun b : Fin 8 => b.val ≤ 7) = Finset.univ :=
  Finset.filter_true_of_mem fun b _ => by have := b.isLt; omega

section Values

variable (hA : Apart (m ((c : Thread nD τ).loc main_arg0)) (m ((c : Thread nD τ).loc main_arg1)) X C)

include hA

/-- The quantised array holds each token's nearest row. -/
theorem quant_val (b : Fin 8) (d : Fin 64) (t : Fin 4096) :
    quantArr m c (ix3 b d t) = (C (code C (X b t)) d : EReal) :=
  quantB_val (fun k d => (cBlk_apply m c _ k d).trans (hA.rows k d)) (fun t d => (xBlk_apply m c b d t).trans (hA.tokens b t d))
    (hA.far b) d t

/-- The codes are the numbers of the nearest rows. -/
theorem codes_val (b : Fin 8) (t : Fin 4096) :
    codesArr m c (ix3 b 0 t) = BitVec.ofNat 32 (code C (X b t)).val :=
  codesB_val (fun k d => (cBlk_apply m c _ k d).trans (hA.rows k d)) (fun t d => (xBlk_apply m c b d t).trans (hA.tokens b t d))
    (hA.far b) t

/-- The counts after grid point `n`. -/
theorem countsAt_val (k : Fin 1024) : ∀ (n : ℕ) (h : n < cfg0.N),
    countsAt m c n h (ix2 0 k)
      = ((∑ b ∈ Finset.univ.filter (fun b : Fin 8 => b.val ≤ n), ∑ t, hit C (X b t) k : ℝ) : EReal)
  | 0, h => by
    have e0 : countsAt m c 0 h = countsB (cBlk m c (pt 0)) (xBlk m c (pt 0)) (k0_pay7 (F := Ideal)) := rfl
    rw [e0]
    rw [countsB_val (fun k d => (cBlk_apply m c _ k d).trans (hA.rows k d)) (fun t d => (xBlk_apply m c 0 d t).trans (hA.tokens 0 t d))
      (hA.far 0), counts0_apply, zero_add]
    have e : Finset.univ.filter (fun b : Fin 8 => b.val ≤ 0) = {0} := by decide
    rw [e, Finset.sum_singleton]
  | n + 1, h => by
    have h8 : n + 1 < 8 := lt_of_lt_of_eq h N_0
    show countsB (cBlk m c (pt ⟨n + 1, h8⟩)) (xBlk m c (pt ⟨n + 1, h8⟩)) (countsAt m c n _) (ix2 0 k) = _
    rw [countsB_val (fun k d => (cBlk_apply m c _ k d).trans (hA.rows k d)) (fun t d => (xBlk_apply m c _ d t).trans (hA.tokens _ t d))
      (hA.far _), countsAt_val k n, ← EReal.coe_add, sum_upto_succ n h8]

/-- The squared errors after grid point `n`. -/
theorem sseAt_val (t : Fin 4096) : ∀ (n : ℕ) (h : n < cfg0.N),
    sseAt m c n h (ix2 0 t)
      = ((∑ b ∈ Finset.univ.filter (fun b : Fin 8 => b.val ≤ n), err C (X b t) : ℝ) : EReal)
  | 0, h => by
    have e0 : sseAt m c 0 h = sseB (cBlk m c (pt 0)) (xBlk m c (pt 0)) (k0_pay8 (F := Ideal)) := rfl
    rw [e0]
    rw [sseB_val (fun k d => (cBlk_apply m c _ k d).trans (hA.rows k d)) (fun t d => (xBlk_apply m c 0 d t).trans (hA.tokens 0 t d))
      (hA.far 0), sse0_apply, zero_add]
    have e : Finset.univ.filter (fun b : Fin 8 => b.val ≤ 0) = {0} := by decide
    rw [e, Finset.sum_singleton]
  | n + 1, h => by
    have h8 : n + 1 < 8 := lt_of_lt_of_eq h N_0
    show sseB (cBlk m c (pt ⟨n + 1, h8⟩)) (xBlk m c (pt ⟨n + 1, h8⟩)) (sseAt m c n _) (ix2 0 t) = _
    rw [sseB_val (fun k d => (cBlk_apply m c _ k d).trans (hA.rows k d)) (fun t d => (xBlk_apply m c _ d t).trans (hA.tokens _ t d))
      (hA.far _), sseAt_val t n, ← EReal.coe_add, sum_upto_succ n h8]

/-- The loss is the mean of the squared errors. -/
theorem loss_val : lossArr m c (ix2 0 0) = (lossOf C X : EReal) := by
  unfold lossArr
  rw [loss_apply, bits_inv_elems]
  simp only [sseAt_val m c hA, upto_last, ← coe_sum, ← EReal.coe_mul]
  rw [Finset.sum_comm, lossOf]

/-- The perplexity is that of the shares. -/
theorem perp_val : perpArr m c (ix2 0 0) = perpOf C X := by
  unfold perpArr
  rw [perp_apply, bits_inv_tokens]
  simp only [countsAt_val m c hA, upto_last, ← EReal.coe_mul, zero_sub]
  rfl

end Values

end Cert.KernelIdeal.Value
-- ==== Proof.RefOps.lean ====
/- The reference program as a list of its host operations, cut into nine stretches, and its run: every weakly fair
   execution ends with each buffer at the list's operations applied in order. -/
module

public import proofs.«01_k».proof.Proof.Gen.ReferenceIdeal
public import Idealize.ShloMosaic.Lib.StableHlo.Run

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The operations that compute the distance of every token to every codebook row. -/
abbrev distOps : List (HloOp τ sig (Elt F)) :=
  [ unary main_arg0 main_v0 ((transpose S8x4096x64 [0, 2, 1] · transposes_S8x64x4096_S8x4096x64_0_2_1) : (⟨S8x64x4096, .f32⟩ : BufTy).Contents (Elt F) → (⟨S8x4096x64, .f32⟩ : BufTy).Contents (Elt F)),
    reshape main_v0 main_v1 (rfl : (.f32 : EltTy) = .f32) shapeCasts_S8x4096x64_S32768x64,
    binary main_v1 main_v1 main_v2 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S32768x1024 ![0, 1] bcast_S32768x1_S32768x1024_0_1 : (⟨S32768x1, .f32⟩ : BufTy).Contents (Elt F) → (⟨S32768x1024, .f32⟩ : BufTy).Contents (Elt F)),
    unary main_v7 main_v9 (broadcastInDim S32768x1024 ![0, 1] bcast_S1x1024_S32768x1024_0_1 : (⟨S1x1024, .f32⟩ : BufTy).Contents (Elt F) → (⟨S32768x1024, .f32⟩ : BufTy).Contents (Elt F)),
    binary main_v8 main_v9 main_v10 (addf : (⟨S32768x1024, .f32⟩ : BufTy).Contents (Elt F) → (⟨S32768x1024, .f32⟩ : BufTy).Contents (Elt F) → (⟨S32768x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v13 (broadcastInDim S32768x1024 ![] bcast_S_S32768x1024 : (⟨S_, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v10 main_v14 main_v15 (subf : (⟨S32768x1024, .f32⟩ : BufTy).Contents (Elt F) → (⟨S32768x1024, .f32⟩ : BufTy).Contents (Elt F) → (⟨S32768x1024, .f32⟩ : BufTy).Contents (Elt F)),
    nullary main_cst_2 (constant S_ .f32 0x00000000#32),
    unary main_cst_2 main_v16 (broadcastInDim S32768x1024 ![] bcast_S_S32768x1024 : (⟨S_, .f32⟩ : BufTy).Contents (Elt F) → (⟨S32768x1024, .f32⟩ : BufTy).Contents (Elt F)),
    binary main_v15 main_v16 main_v17 (maximumf : (⟨S32768x1024, .f32⟩ : BufTy).Contents (Elt F) → (⟨S32768x1024, .f32⟩ : BufTy).Contents (Elt F) → (⟨S32768x1024, .f32⟩ : BufTy).Contents (Elt F)),
    unary main_v17 main_v18 (Host.sqrt : (⟨S32768x1024, .f32⟩ : BufTy).Contents (Elt F) → (⟨S32768x1024, .f32⟩ : BufTy).Contents (Elt F)) ]

/-- The buffers `distOps` writes. -/
abbrev distBufs : List (Ref sig .tc) :=
  [main_v0, main_v1, main_v2, main_cst, main_v3, main_v4, main_v5, main_cst_0, main_v6, main_v7, main_v8, main_v9, main_v10, main_v11, main_v12, main_cst_1, main_v13, main_v14, main_v15, main_cst_2, main_v16, main_v17, main_v18]

/-- The operations that compute the position of the least distance of each row. -/
abbrev argminOps : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v18) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v18) (TRef.of (T := ⟨S32768x1024, .i32⟩) main_call0_v0) (TRef.of (T := ⟨S_, .f32⟩) main_call0_cst) (TRef.of (T := ⟨S_, .i32⟩) main_call0_c) (TRef.of (T := ⟨S32768, .i32⟩) main_v19) (fun x y u v j => (Host.argReduce reducer_argmin_f32_i32 x y u v reducesTo_S32768x1024_S32768_d1 h_S_ j).2) ]

/-- The buffers `argminOps` writes. -/
abbrev argminBufs : List (Ref sig .tc) :=
  [main_call0_v0, main_call0_cst, main_call0_c, main_call0_v1_0, main_v19]

/-- The operations that compute the codebook row of each code. -/
abbrev takeOps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v19) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v19) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v19) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v20) select ]

/-- The buffers `takeOps` writes. -/
abbrev takeBufs : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v20]

/-- The operations that compute those rows laid out as the input is. -/
abbrev quantOps : List (HloOp τ sig (Elt F)) :=
  [ reshape main_v20 main_v21 (rfl : (.f32 : EltTy) = .f32) shapeCasts_S32768x64_S8x4096x64,
    unary main_v21 main_v22 ((transpose S8x64x4096 [0, 2, 1] · transposes_S8x4096x64_S8x64x4096_0_2_1) : (⟨S8x4096x64, .f32⟩ : BufTy).Contents (Elt F) → (⟨S8x64x4096, .f32⟩ : BufTy).Contents (Elt F)) ]

/-- The buffers `quantOps` writes. -/
abbrev quantBufs : List (Ref sig .tc) :=
  [main_v21, main_v22]

/-- The operations that compute the two mean squared differences. -/
abbrev lossOps : List (HloOp τ sig (Elt F)) :=
  [ binary main_v22 main_arg0 main_v23 (subf : (⟨S8x64x4096, .f32⟩ : BufTy).Contents (Elt F) → (⟨S8x64x4096, .f32⟩ : BufTy).Contents (Elt F) → (⟨S8x64x4096, .f32⟩ : BufTy).Contents (Elt F)),
    binary main_v23 main_v23 main_v24 (mulf : (⟨S8x64x4096, .f32⟩ : BufTy).Contents (Elt F) → (⟨S8x64x4096, .f32⟩ : BufTy).Contents (Elt F) → (⟨S8x64x4096, .f32⟩ : BufTy).Contents (Elt F)),
    nullary main_cst_3 (constant S_ .f32 0x00000000#32),
    binary main_v24 main_cst_3 main_v25 ((fun x v => Host.reduceAdd x v reducesTo_S8x64x4096_S_d0_1_2 h_S_) : (⟨S8x64x4096, .f32⟩ : BufTy).Contents (Elt F) → (⟨S_, .f32⟩ : BufTy).Contents (Elt F) → (⟨S_, .f32⟩ : BufTy).Contents (Elt F)),
    nullary main_cst_4 (constant S_ .f32 0x4A000000#32),
    binary main_v25 main_cst_4 main_v26 (Host.divf : (⟨S_, .f32⟩ : BufTy).Contents (Elt F) → (⟨S_, .f32⟩ : BufTy).Contents (Elt F) → (⟨S_, .f32⟩ : BufTy).Contents (Elt F)),
    binary main_v22 main_arg0 main_v27 (subf : (⟨S8x64x4096, .f32⟩ : BufTy).Contents (Elt F) → (⟨S8x64x4096, .f32⟩ : BufTy).Contents (Elt F) → (⟨S8x64x4096, .f32⟩ : BufTy).Contents (Elt F)),
    binary main_v27 main_v27 main_v28 (mulf : (⟨S8x64x4096, .f32⟩ : BufTy).Contents (Elt F) → (⟨S8x64x4096, .f32⟩ : BufTy).Contents (Elt F) → (⟨S8x64x4096, .f32⟩ : BufTy).Contents (Elt F)),
    nullary main_cst_5 (constant S_ .f32 0x00000000#32),
    binary main_v28 main_cst_5 main_v29 ((fun x v => Host.reduceAdd x v reducesTo_S8x64x4096_S_d0_1_2 h_S_) : (⟨S8x64x4096, .f32⟩ : BufTy).Contents (Elt F) → (⟨S_, .f32⟩ : BufTy).Contents (Elt F) → (⟨S_, .f32⟩ : BufTy).Contents (Elt F)),
    nullary main_cst_6 (constant S_ .f32 0x4A000000#32),
    binary main_v29 main_cst_6 main_v30 (Host.divf : (⟨S_, .f32⟩ : BufTy).Contents (Elt F) → (⟨S_, .f32⟩ : BufTy).Contents (Elt F) → (⟨S_, .f32⟩ : BufTy).Contents (Elt F)) ]

/-- The buffers `lossOps` writes. -/
abbrev lossBufs : List (Ref sig .tc) :=
  [main_v23, main_v24, main_cst_3, main_v25, main_cst_4, main_v26, main_v27, main_v28, main_cst_5, main_v29, main_cst_6, main_v30]

/-- The operations that compute the input plus the difference of the rows and the input. -/
abbrev stOps : List (HloOp τ sig (Elt F)) :=
  [ binary main_v22 main_arg0 main_v31 (subf : (⟨S8x64x4096, .f32⟩ : BufTy).Contents (Elt F) → (⟨S8x64x4096, .f32⟩ : BufTy).Contents (Elt F) → (⟨S8x64x4096, .f32⟩ : BufTy).Contents (Elt F)),
    binary main_arg0 main_v31 main_v32 (addf : (⟨S8x64x4096, .f32⟩ : BufTy).Contents (Elt F) → (⟨S8x64x4096, .f32⟩ : BufTy).Contents (Elt F) → (⟨S8x64x4096, .f32⟩ : BufTy).Contents (Elt F)) ]

/-- The buffers `stOps` writes. -/
abbrev stBufs : List (Ref sig .tc) :=
  [main_v31, main_v32]

/-- The operations that compute the number of tokens of each code. -/
abbrev countOps : List (HloOp τ sig (Elt F)) :=
  [ nullary main_c (constantI S_ 32 0#32),
    unary main_c main_v33 (broadcastInDim S1024 ![] bcast_S_S1024 : (⟨S_, .i32⟩ : BufTy).Contents (Elt F) → (⟨S1024, .i32⟩ : BufTy).Contents (Elt F)),
    nullary main_c_7 (constantI S_ 32 0#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S32768, .i32⟩) main_call2_v1) (broadcastInDim S32768 ![] bcast_S_S32768),
    TRef.binary (TRef.of (T := ⟨S32768, .i32⟩) main_call2_v1) (TRef.of (T := ⟨S32768, .i32⟩) main_v19) (TRef.of (T := ⟨S32768, .i32⟩) main_v34) maxsi,
    nullary main_c_8 (constantI S_ 32 0#32),
    unary main_c_8 main_v35 (broadcastInDim S32768 ![] bcast_S_S32768 : (⟨S_, .i32⟩ : BufTy).Contents (Elt F) → (⟨S32768, .i32⟩ : BufTy).Contents (Elt F)),
    binary main_v34 main_v35 main_v36 (cmpi .slt : (⟨S32768, .i32⟩ : BufTy).Contents (Elt F) → (⟨S32768, .i32⟩ : BufTy).Contents (Elt F) → (⟨S32768, .i1⟩ : BufTy).Contents (Elt F)),
    nullary main_c_9 (constantI S_ 32 1024#32),
    unary main_c_9 main_v37 (broadcastInDim S32768 ![] bcast_S_S32768 : (⟨S_, .i32⟩ : BufTy).Contents (Elt F) → (⟨S32768, .i32⟩ : BufTy).Contents (Elt F)),
    binary main_v34 main_v37 main_v38 (addi : (⟨S32768, .i32⟩ : BufTy).Contents (Elt F) → (⟨S32768, .i32⟩ : BufTy).Contents (Elt F) → (⟨S32768, .i32⟩ : BufTy).Contents (Elt F)),
    ternary main_v36 main_v38 main_v34 main_v39 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v39 main_v40 (broadcastInDim S32768x1 ![0] bcast_S32768_S32768x1_0 : (⟨S32768, .i32⟩ : BufTy).Contents (Elt F) → (⟨S32768x1, .i32⟩ : BufTy).Contents (Elt F)),
    nullary main_c_10 (constantI S_ 32 1#32),
    unary main_c_10 main_v41 (broadcastInDim S32768 ![] bcast_S_S32768 : (⟨S_, .i32⟩ : BufTy).Contents (Elt F) → (⟨S32768, .i32⟩ : BufTy).Contents (Elt F)),
    ternary main_v33 main_v40 main_v41 main_v42 ((fun x i u => Host.scatter scatter_S1024_S32768x1_S32768_n_0_0_1 IntOp.addi x i u) : (⟨S1024, .i32⟩ : BufTy).Contents (Elt F) → (⟨S32768x1, .i32⟩ : BufTy).Contents (Elt F) → (⟨S32768, .i32⟩ : BufTy).Contents (Elt F) → (⟨S1024, .i32⟩ : BufTy).Contents (Elt F)) ]

/-- The buffers `countOps` writes. -/
abbrev countBufs : List (Ref sig .tc) :=
  [main_c, main_v33, main_c_7, main_call2_v0, main_call2_v1, main_v34, main_c_8, main_v35, main_v36, main_c_9, main_v37, main_v38, main_v39, main_v40, main_c_10, main_v41, main_v42]

/-- The operations that compute the perplexity of those numbers. -/
abbrev perpOps : List (HloOp τ sig (Elt F)) :=
  [ unary main_v42 main_v43 (sitofp .f32 : (⟨S1024, .i32⟩ : BufTy).Contents (Elt F) → (⟨S1024, .f32⟩ : BufTy).Contents (Elt F)),
    nullary main_cst_11 (constant S_ .f32 0x47000000#32),
    unary main_cst_11 main_v44 (broadcastInDim S1024 ![] bcast_S_S1024 : (⟨S_, .f32⟩ : BufTy).Contents (Elt F) → (⟨S1024, .f32⟩ : BufTy).Contents (Elt F)),
    binary main_v43 main_v44 main_v45 (Host.divf : (⟨S1024, .f32⟩ : BufTy).Contents (Elt F) → (⟨S1024, .f32⟩ : BufTy).Contents (Elt F) → (⟨S1024, .f32⟩ : BufTy).Contents (Elt F)),
    nullary main_cst_12 (constant S_ .f32 0x2EDBE6FF#32),
    unary main_cst_12 main_v46 (broadcastInDim S1024 ![] bcast_S_S1024 : (⟨S_, .f32⟩ : BufTy).Contents (Elt F) → (⟨S1024, .f32⟩ : BufTy).Contents (Elt F)),
    binary main_v45 main_v46 main_v47 (addf : (⟨S1024, .f32⟩ : BufTy).Contents (Elt F) → (⟨S1024, .f32⟩ : BufTy).Contents (Elt F) → (⟨S1024, .f32⟩ : BufTy).Contents (Elt F)),
    unary main_v47 main_v48 (Host.log : (⟨S1024, .f32⟩ : BufTy).Contents (Elt F) → (⟨S1024, .f32⟩ : BufTy).Contents (Elt F)),
    binary main_v45 main_v48 main_v49 (mulf : (⟨S1024, .f32⟩ : BufTy).Contents (Elt F) → (⟨S1024, .f32⟩ : BufTy).Contents (Elt F) → (⟨S1024, .f32⟩ : BufTy).Contents (Elt F)),
    nullary main_cst_13 (constant S_ .f32 0x00000000#32),
    binary main_v49 main_cst_13 main_v50 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v50 main_v51 (Host.negf : (⟨S_, .f32⟩ : BufTy).Contents (Elt F) → (⟨S_, .f32⟩ : BufTy).Contents (Elt F)),
    unary main_v51 main_v52 (Host.exp : (⟨S_, .f32⟩ : BufTy).Contents (Elt F) → (⟨S_, .f32⟩ : BufTy).Contents (Elt F)) ]

/-- The buffers `perpOps` writes. -/
abbrev perpBufs : List (Ref sig .tc) :=
  [main_v43, main_cst_11, main_v44, main_v45, main_cst_12, main_v46, main_v47, main_v48, main_v49, main_cst_13, main_v50, main_v51, main_v52]

/-- The operations that compute the codes, a row per batch. -/
abbrev codesOps : List (HloOp τ sig (Elt F)) :=
  [ reshape main_v19 main_v53 (rfl : (.i32 : EltTy) = .i32) shapeCasts_S32768_S8x4096 ]

/-- The buffers `codesOps` writes. -/
abbrev codesBufs : List (Ref sig .tc) :=
  [main_v53]

/-- The whole program. -/
abbrev ops : List (HloOp τ sig (Elt F)) :=
  distOps ++ (argminOps ++ (takeOps ++ (quantOps ++ (lossOps ++ (stOps ++ (countOps ++ (perpOps ++ (codesOps))))))))

set_option maxRecDepth 8192 in
set_option maxHeartbeats 4000000 in
/-- The program is its list of operations, in order. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
theorem dist_sub : (distOps : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub ..⟩

set_option maxRecDepth 8192 in
/-- `distOps` changes no buffer but those in `distBufs`. -/
theorem dist_keeps (V : Valuation τ sig (Elt F)) {r : Ref sig .tc} (hr : r ∉ distBufs) :
    after distOps V (Proc.devRef .tc r) = V (Proc.devRef .tc r) :=
  after_of_writes_sub _ V (forall_writes_sub_of_map rfl) hr

set_option maxRecDepth 8192 in
theorem argmin_sub : (argminOps : List (HloOp τ sig (Elt F))).Forall fun op => op.bufs ⊆ tcRefs τ sig :=
  ⟨nullary_bufs_sub .., nullary_bufs_sub .., nullary_bufs_sub .., quaternary_bufs_sub .., quaternary_bufs_sub ..⟩

set_option maxRecDepth 8192 in
/-- `argminOps` changes no buffer but those in `argminBufs`. -/
theorem argmin_keeps (V : Valuation τ sig (Elt F)) {r : Ref sig .tc} (hr : r ∉ argminBufs) :
    after argminOps V (Proc.devRef .tc r) = V (Proc.devRef .tc r) :=
  after_of_writes_sub _ V (forall_writes_sub_of_map rfl) hr

set_option maxRecDepth 8192 in
theorem take_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxRecDepth 8192 in
/-- `takeOps` changes no buffer but those in `takeBufs`. -/
theorem take_keeps (V : Valuation τ sig (Elt F)) {r : Ref sig .tc} (hr : r ∉ takeBufs) :
    after takeOps V (Proc.devRef .tc r) = V (Proc.devRef .tc r) :=
  after_of_writes_sub _ V (forall_writes_sub_of_map rfl) hr

set_option maxRecDepth 8192 in
theorem quant_sub : (quantOps : List (HloOp τ sig (Elt F))).Forall fun op => op.bufs ⊆ tcRefs τ sig :=
  ⟨reshape_bufs_sub .., unary_bufs_sub ..⟩

set_option maxRecDepth 8192 in
/-- `quantOps` changes no buffer but those in `quantBufs`. -/
theorem quant_keeps (V : Valuation τ sig (Elt F)) {r : Ref sig .tc} (hr : r ∉ quantBufs) :
    after quantOps V (Proc.devRef .tc r) = V (Proc.devRef .tc r) :=
  after_of_writes_sub _ V (forall_writes_sub_of_map rfl) hr

set_option maxRecDepth 8192 in
theorem loss_sub : (lossOps : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub ..⟩

set_option maxRecDepth 8192 in
/-- `lossOps` changes no buffer but those in `lossBufs`. -/
theorem loss_keeps (V : Valuation τ sig (Elt F)) {r : Ref sig .tc} (hr : r ∉ lossBufs) :
    after lossOps V (Proc.devRef .tc r) = V (Proc.devRef .tc r) :=
  after_of_writes_sub _ V (forall_writes_sub_of_map rfl) hr

set_option maxRecDepth 8192 in
theorem st_sub : (stOps : List (HloOp τ sig (Elt F))).Forall fun op => op.bufs ⊆ tcRefs τ sig :=
  ⟨binary_bufs_sub .., binary_bufs_sub ..⟩

set_option maxRecDepth 8192 in
/-- `stOps` changes no buffer but those in `stBufs`. -/
theorem st_keeps (V : Valuation τ sig (Elt F)) {r : Ref sig .tc} (hr : r ∉ stBufs) :
    after stOps V (Proc.devRef .tc r) = V (Proc.devRef .tc r) :=
  after_of_writes_sub _ V (forall_writes_sub_of_map rfl) hr

set_option maxRecDepth 8192 in
theorem count_sub : (countOps : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

set_option maxRecDepth 8192 in
/-- `countOps` changes no buffer but those in `countBufs`. -/
theorem count_keeps (V : Valuation τ sig (Elt F)) {r : Ref sig .tc} (hr : r ∉ countBufs) :
    after countOps V (Proc.devRef .tc r) = V (Proc.devRef .tc r) :=
  after_of_writes_sub _ V (forall_writes_sub_of_map rfl) hr

set_option maxRecDepth 8192 in
theorem perp_sub : (perpOps : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

set_option maxRecDepth 8192 in
/-- `perpOps` changes no buffer but those in `perpBufs`. -/
theorem perp_keeps (V : Valuation τ sig (Elt F)) {r : Ref sig .tc} (hr : r ∉ perpBufs) :
    after perpOps V (Proc.devRef .tc r) = V (Proc.devRef .tc r) :=
  after_of_writes_sub _ V (forall_writes_sub_of_map rfl) hr

theorem codes_sub : (codesOps : List (HloOp τ sig (Elt F))).Forall fun op => op.bufs ⊆ tcRefs τ sig :=
  reshape_bufs_sub ..

set_option maxRecDepth 8192 in
/-- `codesOps` changes no buffer but those in `codesBufs`. -/
theorem codes_keeps (V : Valuation τ sig (Elt F)) {r : Ref sig .tc} (hr : r ∉ codesBufs) :
    after codesOps V (Proc.devRef .tc r) = V (Proc.devRef .tc r) :=
  after_of_writes_sub _ V (forall_writes_sub_of_map rfl) hr

/-- Every operation of the program stays on the device's buffers. -/
theorem ops_sub : (ops : List (HloOp τ sig (Elt F))).Forall fun op => op.bufs ⊆ tcRefs τ sig := by
  simp only [ops, List.forall_append]
  exact ⟨dist_sub, argmin_sub, take_sub, quant_sub, loss_sub, st_sub, count_sub, perp_sub, codes_sub⟩

set_option maxRecDepth 8192 in
/-- No operation of the program allocates a buffer. -/
theorem ops_fresh : (ops : List (HloOp τ sig (Elt F))).Forall fun op => op.fresh = ∅ :=
  forall_fresh_of_map rfl

/-- Two lists of operations in a row: the second runs on what the first leaves. -/
theorem after_append (l k : List (HloOp τ sig (Elt F))) (V : Valuation τ sig (Elt F)) :
    after (l ++ k) V = after k (after l V) := by
  induction l generalizing V with
  | nil => rfl
  | cons op l ih => exact ih _

/-- Every weakly fair execution of the program ends with each buffer at the operations applied in order to the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    fun _ => List.forall_iff_forall_mem.mp ops_fresh

end Cert.ReferenceIdeal.Ops

end
-- ==== Proof.RefRun.lean ====
/- What the reference program leaves in its result buffers: each stretch of its operations as a function of the arrays it
   reads, and the five results as compositions of those functions. -/
module

public import proofs.«01_k».proof.Proof.RefOps

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The tokens, one row each. -/
def tokens (x : (⟨S8x64x4096, .f32⟩ : BufTy).Contents (Elt F)) : (⟨S32768x64, .f32⟩ : BufTy).Contents (Elt F) :=
  shapeCast S32768x64 (transpose S8x4096x64 [0, 2, 1] x transposes_S8x64x4096_S8x4096x64_0_2_1) shapeCasts_S8x4096x64_S32768x64

/-- The squared length of every token, plus that of every codebook row. -/
def norms (f : (⟨S32768x64, .f32⟩ : BufTy).Contents (Elt F)) (cb : (⟨S1024x64, .f32⟩ : BufTy).Contents (Elt F)) :
    (⟨S32768x1024, .f32⟩ : BufTy).Contents (Elt F) :=
  addf
    (broadcastInDim S32768x1024 ![0, 1] bcast_S32768x1_S32768x1024_0_1 (broadcastInDim S32768x1 ![0] bcast_S32768_S32768x1_0
      (Host.reduceAdd (mulf f f) (constant S_ .f32 0x00000000#32) reducesTo_S32768x64_S32768_d1 h_S_)))
    (broadcastInDim S32768x1024 ![0, 1] bcast_S1x1024_S32768x1024_0_1 (broadcastInDim S1x1024 ![1] bcast_S1024_S1x1024_1
      (Host.reduceAdd (mulf cb cb) (constant S_ .f32 0x00000000#32) reducesTo_S1024x64_S1024_d1 h_S_)))

/-- The scalar product of every token with every codebook row. -/
def dots (f : (⟨S32768x64, .f32⟩ : BufTy).Contents (Elt F)) (cb : (⟨S1024x64, .f32⟩ : BufTy).Contents (Elt F)) :
    (⟨S32768x1024, .f32⟩ : BufTy).Contents (Elt F) :=
  Host.dotGeneral dot_S32768x64_S64x1024_S32768x1024_1_0_0_1_n_n none f
    (transpose S64x1024 [1, 0] cb transposes_S1024x64_S64x1024_1_0)

/-- The distance of every token to every codebook row. -/
def dist (x : (⟨S8x64x4096, .f32⟩ : BufTy).Contents (Elt F)) (cb : (⟨S1024x64, .f32⟩ : BufTy).Contents (Elt F)) :
    (⟨S32768x1024, .f32⟩ : BufTy).Contents (Elt F) :=
  Host.sqrt (maximumf
    (subf (norms (tokens x) cb)
      (mulf (broadcastInDim S32768x1024 ![] bcast_S_S32768x1024 (constant S_ .f32 0x40000000#32)) (dots (tokens x) cb)))
    (broadcastInDim S32768x1024 ![] bcast_S_S32768x1024 (constant S_ .f32 0x00000000#32)))

/-- The position of the least entry of each row. -/
def argmin (d : (⟨S32768x1024, .f32⟩ : BufTy).Contents (Elt F)) : (⟨S32768, .i32⟩ : BufTy).Contents (Elt F) :=
  fun j => (Host.argReduce reducer_argmin_f32_i32 d (iotaInDim S32768x1024 32 1) (constant S_ .f32 0x7F800000#32)
    (constantI S_ 32 0#32) reducesTo_S32768x1024_S32768_d1 h_S_ j).2

/-- A code as a row number: a negative one counts from the end. -/
def wrap (k : (⟨S32768, .i32⟩ : BufTy).Contents (Elt F)) : (⟨S32768x1, .i32⟩ : BufTy).Contents (Elt F) :=
  broadcastInDim S32768x1 ![0] bcast_S32768_S32768x1_0
    (select (cmpi .slt k (broadcastInDim S32768 ![] bcast_S_S32768 (constantI S_ 32 0#32)))
      (addi k (broadcastInDim S32768 ![] bcast_S_S32768 (constantI S_ 32 1024#32))) k)

/-- Whether a row number lies in the codebook. -/
def inRange (w : (⟨S32768x1, .i32⟩ : BufTy).Contents (Elt F)) : (⟨S32768, .i1⟩ : BufTy).Contents (Elt F) :=
  Host.reduce IntOp.andi
    (andi (cmpi .sge w (broadcastInDim S32768x1 ![] bcast_S_S32768x1 (constantI S_ 32 0#32)))
      (cmpi .sle w (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook row of every code. -/
def take (cb : (⟨S1024x64, .f32⟩ : BufTy).Contents (Elt F)) (k : (⟨S32768, .i32⟩ : BufTy).Contents (Elt F)) :
    (⟨S32768x64, .f32⟩ : BufTy).Contents (Elt F) :=
  select (broadcastInDim S32768x64 ![0] bcast_S32768_S32768x64_0 (inRange (F := F) (wrap (F := F) k)))
    (Host.gather gather_S1024x64_S32768x1_S32768x64_1_0_n_n_0_1_164 cb (wrap (F := F) k))
    (broadcastInDim S32768x64 ![] bcast_S_S32768x64 (constant S_ .f32 0x7FC00000#32))

/-- The rows laid out as the input is. -/
def layOut (r : (⟨S32768x64, .f32⟩ : BufTy).Contents (Elt F)) : (⟨S8x64x4096, .f32⟩ : BufTy).Contents (Elt F) :=
  transpose S8x64x4096 [0, 2, 1] (shapeCast S8x4096x64 r shapeCasts_S32768x64_S8x4096x64) transposes_S8x4096x64_S8x64x4096_0_2_1

/-- The mean squared difference of two arrays. -/
def loss (q x : (⟨S8x64x4096, .f32⟩ : BufTy).Contents (Elt F)) : (⟨S_, .f32⟩ : BufTy).Contents (Elt F) :=
  Host.divf (Host.reduceAdd (mulf (subf q x) (subf q x)) (constant S_ .f32 0x00000000#32) reducesTo_S8x64x4096_S_d0_1_2 h_S_)
    (constant S_ .f32 0x4A000000#32)

/-- The codes kept from below at zero. -/
def clip (k : (⟨S32768, .i32⟩ : BufTy).Contents (Elt F)) : (⟨S32768, .i32⟩ : BufTy).Contents (Elt F) :=
  maxsi (broadcastInDim S32768 ![] bcast_S_S32768 (constantI S_ 32 0#32)) k

/-- The number of tokens of each code. -/
def count (k : (⟨S32768, .i32⟩ : BufTy).Contents (Elt F)) : (⟨S1024, .i32⟩ : BufTy).Contents (Elt F) :=
  Host.scatter scatter_S1024_S32768x1_S32768_n_0_0_1 IntOp.addi
    (broadcastInDim S1024 ![] bcast_S_S1024 (constantI S_ 32 0#32)) (wrap (F := F) (clip (F := F) k))
    (broadcastInDim S32768 ![] bcast_S_S32768 (constantI S_ 32 1#32))

/-- The share of the tokens each code has. -/
def share (n : (⟨S1024, .i32⟩ : BufTy).Contents (Elt F)) : (⟨S1024, .f32⟩ : BufTy).Contents (Elt F) :=
  Host.divf (sitofp .f32 n) (broadcastInDim S1024 ![] bcast_S_S1024 (constant S_ .f32 0x47000000#32))

/-- The perplexity of those numbers. -/
def perp (n : (⟨S1024, .i32⟩ : BufTy).Contents (Elt F)) : (⟨S_, .f32⟩ : BufTy).Contents (Elt F) :=
  Host.exp (Host.negf (Host.reduceAdd
    (mulf (share n) (Host.log (addf (share n) (broadcastInDim S1024 ![] bcast_S_S1024 (constant S_ .f32 0x2EDBE6FF#32)))))
    (constant S_ .f32 0x00000000#32) reducesTo_S1024_S_d0 h_S_))

/-! ## What each stretch leaves -/

section Stretches

variable (V : Valuation τ sig (Elt F))

theorem dist_val : after distOps V (Proc.devRef .tc main_v18)
    = dist (V (Proc.devRef .tc main_arg0)) (V (Proc.devRef .tc main_arg1)) := by
  after_results_simp <;> rfl

theorem argmin_val : after argminOps V (Proc.devRef .tc main_v19) = argmin (V (Proc.devRef .tc main_v18)) := by
  simp only [argminOps, TRef.quaternary, TRef.nullary, TRef.toBuf, TRef.ofBuf, cast_eq]
  after_results_simp <;> rfl

theorem take_val : after takeOps V (Proc.devRef .tc main_v20)
    = take (V (Proc.devRef .tc main_arg1)) (V (Proc.devRef .tc main_v19)) := by
  simp only [takeOps, TRef.binary, TRef.nullary, TRef.ternary, TRef.unary, TRef.toBuf, TRef.ofBuf, cast_eq]
  after_results_simp <;> rfl

theorem quant_val : after quantOps V (Proc.devRef .tc main_v22) = layOut (V (Proc.devRef .tc main_v20)) := by
  after_results_simp <;> rfl

theorem loss_val26 : after lossOps V (Proc.devRef .tc main_v26)
    = loss (V (Proc.devRef .tc main_v22)) (V (Proc.devRef .tc main_arg0)) := by
  after_results_simp <;> rfl

theorem loss_val30 : after lossOps V (Proc.devRef .tc main_v30)
    = loss (V (Proc.devRef .tc main_v22)) (V (Proc.devRef .tc main_arg0)) := by
  after_results_simp <;> rfl

theorem st_val : after stOps V (Proc.devRef .tc main_v32)
    = (addf (V (Proc.devRef .tc main_arg0)) (subf (V (Proc.devRef .tc main_v22)) (V (Proc.devRef .tc main_arg0)))
        : (⟨S8x64x4096, .f32⟩ : BufTy).Contents (Elt F)) := by
  after_results_simp <;> rfl

theorem count_val : after countOps V (Proc.devRef .tc main_v42) = count (F := F) (V (Proc.devRef .tc main_v19)) := by
  simp only [countOps, TRef.binary, TRef.nullary, TRef.ternary, TRef.unary, TRef.toBuf, TRef.ofBuf, cast_eq]
  after_results_simp <;> rfl

theorem perp_val : after perpOps V (Proc.devRef .tc main_v52) = perp (V (Proc.devRef .tc main_v42)) := by
  after_results_simp <;> rfl

theorem codes_val : after codesOps V (Proc.devRef .tc main_v53)
    = shapeCast S8x4096 (V (Proc.devRef .tc main_v19) : (⟨S32768, .i32⟩ : BufTy).Contents (Elt F)) shapeCasts_S32768_S8x4096 := by
  after_results_simp <;> rfl

end Stretches

/-! ## What the whole program leaves -/

/-- The codes, as a function of the two arguments. -/
def codesOf (x : (⟨S8x64x4096, .f32⟩ : BufTy).Contents (Elt F)) (cb : (⟨S1024x64, .f32⟩ : BufTy).Contents (Elt F)) :
    (⟨S32768, .i32⟩ : BufTy).Contents (Elt F) := argmin (dist x cb)

/-- The chosen codebook rows, laid out as the input is. -/
def quantOf (x : (⟨S8x64x4096, .f32⟩ : BufTy).Contents (Elt F)) (cb : (⟨S1024x64, .f32⟩ : BufTy).Contents (Elt F)) :
    (⟨S8x64x4096, .f32⟩ : BufTy).Contents (Elt F) := layOut (take cb (codesOf x cb))

section Whole

variable (V : Valuation τ sig (Elt F))

theorem ops_after : after ops V = after codesOps (after perpOps (after countOps (after stOps (after lossOps (after quantOps
    (after takeOps (after argminOps (after distOps V)))))))) := by
  simp only [ops, after_append]

/-- An argument is as it was. -/
theorem arg0_val : after ops V (Proc.devRef .tc main_arg0) = V (Proc.devRef .tc main_arg0) := by
  rw [ops_after, codes_keeps _ (by decide), perp_keeps _ (by decide), count_keeps _ (by decide), st_keeps _ (by decide),
    loss_keeps _ (by decide), quant_keeps _ (by decide), take_keeps _ (by decide), argmin_keeps _ (by decide),
    dist_keeps _ (by decide)]

/-- The other argument is as it was. -/
theorem arg1_val : after ops V (Proc.devRef .tc main_arg1) = V (Proc.devRef .tc main_arg1) := by
  rw [ops_after, codes_keeps _ (by decide), perp_keeps _ (by decide), count_keeps _ (by decide), st_keeps _ (by decide),
    loss_keeps _ (by decide), quant_keeps _ (by decide), take_keeps _ (by decide), argmin_keeps _ (by decide),
    dist_keeps _ (by decide)]

/-- The codes, once computed. -/
theorem codes_early : after argminOps (after distOps V) (Proc.devRef .tc main_v19)
    = codesOf (V (Proc.devRef .tc main_arg0)) (V (Proc.devRef .tc main_arg1)) := by
  rw [argmin_val, dist_val]; rfl

/-- The chosen rows, once computed. -/
theorem quant_early : after quantOps (after takeOps (after argminOps (after distOps V))) (Proc.devRef .tc main_v22)
    = quantOf (V (Proc.devRef .tc main_arg0)) (V (Proc.devRef .tc main_arg1)) := by
  rw [quant_val, take_val, codes_early, argmin_keeps _ (by decide), dist_keeps _ (by decide)]; rfl

/-- The input, when the rows have been computed. -/
theorem arg0_early : after quantOps (after takeOps (after argminOps (after distOps V))) (Proc.devRef .tc main_arg0)
    = V (Proc.devRef .tc main_arg0) := by
  rw [quant_keeps _ (by decide), take_keeps _ (by decide), argmin_keeps _ (by decide), dist_keeps _ (by decide)]

/-- The first result. -/
theorem v32_val : after ops V (Proc.devRef .tc main_v32)
    = (addf (V (Proc.devRef .tc main_arg0))
        (subf (quantOf (V (Proc.devRef .tc main_arg0)) (V (Proc.devRef .tc main_arg1))) (V (Proc.devRef .tc main_arg0)))
        : (⟨S8x64x4096, .f32⟩ : BufTy).Contents (Elt F)) := by
  rw [ops_after, codes_keeps _ (by decide), perp_keeps _ (by decide), count_keeps _ (by decide), st_val,
    loss_keeps _ (by decide), loss_keeps _ (by decide), quant_early, arg0_early]

/-- The third result. -/
theorem v26_val : after ops V (Proc.devRef .tc main_v26)
    = loss (quantOf (V (Proc.devRef .tc main_arg0)) (V (Proc.devRef .tc main_arg1))) (V (Proc.devRef .tc main_arg0)) := by
  rw [ops_after, codes_keeps _ (by decide), perp_keeps _ (by decide), count_keeps _ (by decide), st_keeps _ (by decide),
    loss_val26, quant_early, arg0_early]

/-- The fourth result. -/
theorem v30_val : after ops V (Proc.devRef .tc main_v30)
    = loss (quantOf (V (Proc.devRef .tc main_arg0)) (V (Proc.devRef .tc main_arg1))) (V (Proc.devRef .tc main_arg0)) := by
  rw [ops_after, codes_keeps _ (by decide), perp_keeps _ (by decide), count_keeps _ (by decide), st_keeps _ (by decide),
    loss_val30, quant_early, arg0_early]

/-- The codes, when the rows and the losses have been computed. -/
theorem codes_late : after stOps (after lossOps (after quantOps (after takeOps (after argminOps (after distOps V)))))
      (Proc.devRef .tc main_v19)
    = codesOf (V (Proc.devRef .tc main_arg0)) (V (Proc.devRef .tc main_arg1)) := by
  rw [st_keeps _ (by decide), loss_keeps _ (by decide), quant_keeps _ (by decide), take_keeps _ (by decide), codes_early]

/-- The fifth result. -/
theorem v52_val : after ops V (Proc.devRef .tc main_v52)
    = perp (count (F := F) (codesOf (V (Proc.devRef .tc main_arg0)) (V (Proc.devRef .tc main_arg1)))) := by
  rw [ops_after, codes_keeps _ (by decide), perp_val, count_val, codes_late]

/-- The second result. -/
theorem v53_val : after ops V (Proc.devRef .tc main_v53)
    = shapeCast S8x4096 (codesOf (V (Proc.devRef .tc main_arg0)) (V (Proc.devRef .tc main_arg1))) shapeCasts_S32768_S8x4096 := by
  rw [ops_after, codes_val, perp_keeps _ (by decide), count_keeps _ (by decide), codes_late]

end Whole

end Cert.ReferenceIdeal.Ops

end
-- ==== Proof.RefArgmin.lean ====
/- The reference's position of the least entry of a row: a fold that keeps the lesser value, and of two equal values the
   lesser position. -/
module

public import proofs.«01_k».proof.Proof.RefRun
public import proofs.«01_k».proof.Proof.Spec
public import Idealize.ShloMosaic.PureOps.Ideal.Laws
public import Idealize.ShloMosaic.Lib.StableHlo.Predicate

@[expose] public section

noncomputable section

namespace Cert.ReferenceIdeal.Ops

open Cert.VQ Cert.ReferenceIdeal Cert.ReferenceIdeal.Gen Idealize.ShloMosaic

/-- The order the fold goes by: the lesser value first, of two equal values the lesser position. -/
def Before (p q : EReal × BitVec 32) : Prop := p.1 < q.1 ∨ p.1 = q.1 ∧ p.2.toInt ≤ q.2.toInt

/-- Everything is before itself. -/
theorem Before.refl (p : EReal × BitVec 32) : Before p p := .inr ⟨rfl, le_rfl⟩

/-- `Before` is transitive. -/
theorem Before.trans {p q r : EReal × BitVec 32} (h : Before p q) (h' : Before q r) : Before p r := by
  rcases h with h | ⟨e, h⟩ <;> rcases h' with h' | ⟨e', h'⟩
  · exact .inl (h.trans h')
  · exact .inl (e' ▸ h)
  · exact .inl (e ▸ h')
  · exact .inr ⟨e.trans e', h.trans h'⟩

/-- The fold's step picks one of two pairs, before both. -/
theorem step_spec (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨a, i⟩ := a
  obtain ⟨b, j⟩ := b
  have key : reducer_argmin_f32_i32 (F := Ideal) (a, i) (b, j)
      = if a < b ∨ a = b ∧ i.toInt < j.toInt then (a, i) else (b, j) := by
    have one_or : ∀ x : BitVec 1, 1#1 ||| x = 1#1 := by decide
    rcases lt_trichotomy a b with h | h | h
    · simp [reducer_argmin_f32_i32, Ideal.cmpf_def, Ideal.cmp, h, IntOp.ori, Scalar.select, one_or]
    · subst h
      by_cases q : i.toInt < j.toInt <;>
        simp [reducer_argmin_f32_i32, Ideal.cmpf_def, Ideal.cmp, IntOp.ori, IntOp.andi, IntOp.cmpi, Scalar.select, BitVec.slt, q]
    · simp [reducer_argmin_f32_i32, Ideal.cmpf_def, Ideal.cmp, h.not_gt, h.ne', IntOp.ori, IntOp.andi, Scalar.select]
  rw [key]
  split_ifs with h
  · refine ⟨.inl rfl, .refl _, ?_⟩
    rcases h with h | ⟨h, q⟩
    · exact .inl h
    · exact .inr ⟨h, q.le⟩
  · refine ⟨.inr rfl, ?_, .refl _⟩
    rcases lt_trichotomy a b with q | q | q
    · exact absurd (.inl q) h
    · exact .inr ⟨q.symm, not_lt.1 fun l => h (.inr ⟨q, l⟩)⟩
    · exact .inl q

/-- The fold over a list picks one of the pairs it meets, before all of them. -/
theorem fold_spec {ι : Type} (g : ι → EReal × BitVec 32) : ∀ (L : List ι) (z : EReal × BitVec 32),
    (L.foldl (fun r n => reducer_argmin_f32_i32 (F := Ideal) r (g n)) z = z
        ∨ ∃ n ∈ L, L.foldl (fun r n => reducer_argmin_f32_i32 (F := Ideal) r (g n)) z = g n)
      ∧ Before (L.foldl (fun r n => reducer_argmin_f32_i32 (F := Ideal) r (g n)) z) z
      ∧ ∀ n ∈ L, Before (L.foldl (fun r n => reducer_argmin_f32_i32 (F := Ideal) r (g n)) z) (g n)
  | [], z => ⟨.inl rfl, .refl z, fun n h => absurd h List.not_mem_nil⟩
  | a :: L, z => by
    obtain ⟨h1, h2, h3⟩ := fold_spec g L (reducer_argmin_f32_i32 (F := Ideal) z (g a))
    obtain ⟨s1, s2, s3⟩ := step_spec z (g a)
    rw [List.foldl_cons]
    refine ⟨?_, h2.trans s2, fun n hn => ?_⟩
    · rcases h1 with h | ⟨n, hn, h⟩
      · rcases s1 with s | s
        · exact .inl (h.trans s)
        · exact .inr ⟨a, List.mem_cons_self, h.trans s⟩
      · exact .inr ⟨n, List.mem_cons_of_mem _ hn, h⟩
    · rcases List.mem_cons.1 hn with rfl | hn
      · exact h2.trans s3
      · exact h3 n hn

/-- The fold from a pair at the top, over a list whose pairs are a real family's entries with their positions, ends at the
    position of the family's first least entry. -/
theorem fold_best {ι : Type} (g : ι → EReal × BitVec 32) (L : List ι) (z : EReal × BitVec 32) (f : Fin 1024 → ℝ) (hz : z.1 = ⊤)
    (hmem : ∀ p ∈ L, ∃ k : Fin 1024, g p = ((f k : EReal), BitVec.ofNat 32 k.val))
    (hall : ∀ k : Fin 1024, ∃ p ∈ L, g p = ((f k : EReal), BitVec.ofNat 32 k.val)) :
    (L.foldl (fun r n => reducer_argmin_f32_i32 (F := Ideal) r (g n)) z).2 = BitVec.ofNat 32 (best f).val := by
  obtain ⟨h1, -, h3⟩ := fold_spec g L z
  generalize L.foldl (fun r n => reducer_argmin_f32_i32 (F := Ideal) r (g n)) z = r at h1 h3 ⊢
  have after : ∀ k : Fin 1024, Before r ((f k : EReal), BitVec.ofNat 32 k.val) := fun k => by
    obtain ⟨p, hp, e⟩ := hall k
    exact e ▸ h3 p hp
  have num : ∀ k : Fin 1024, (BitVec.ofNat 32 k.val).toInt = (k.val : ℤ) := fun k =>
    StableHlo.Predicate.toInt_ofNat_small _ (by have := k.isLt; omega)
  rcases h1 with rfl | ⟨p, hp, rfl⟩
  · -- the initial pair is before no real number
    rcases after 0 with b | ⟨b, -⟩
    · rw [hz] at b; exact absurd b not_top_lt
    · rw [hz] at b; exact absurd b.symm (EReal.coe_ne_top _)
  · obtain ⟨k, e⟩ := hmem p hp
    rw [e] at after ⊢
    have best_k : IsBest f k := by
      refine ⟨fun j => ?_, fun j hj => ?_⟩
      · rcases after j with b | ⟨b, -⟩
        · exact (EReal.coe_lt_coe_iff.1 b).le
        · exact (EReal.coe_eq_coe_iff.1 b).le
      · rcases after j with b | ⟨-, b⟩
        · exact EReal.coe_lt_coe_iff.1 b
        · have b' : (BitVec.ofNat 32 k.val).toInt ≤ (BitVec.ofNat 32 j.val).toInt := b
          rw [num, num] at b'
          have : j.val < k.val := hj
          omega
    rw [best_k.unique (best_spec f)]

/-- A pair reduction by the fold's step, along the second axis, over a row of real numbers and their positions. -/
theorem reduce2_best (d : FVec Ideal S32768x1024 .f32) (y : IVec S32768x1024 32) (z : FVec Ideal S_ .f32) (w : IVec S_ 32)
    (f : Fin 1024 → ℝ) (n : Fin 32768) (h : ∀ k, d (ix2 n k) = (f k : EReal)) (hy : ∀ k : Fin 1024, y (ix2 n k) = BitVec.ofNat 32 k.val)
    (hz : ∀ i, z i = ⊤) :
    (Host.reduce2 (reducer_argmin_f32_i32 (F := Ideal)) d y z w reducesTo_S32768x1024_S32768_d1 h_S_ (ix1 n)).2
      = BitVec.ofNat 32 (best f).val := by
  unfold Host.reduce2
  refine fold_best (fun p => (d (S32768x1024.rowMajor.symm p), y (S32768x1024.rowMajor.symm p))) _ _ f (hz _) (fun p hp => ?_) fun k => ?_
  · obtain ⟨k, hk⟩ := (Shape.ReducesTo.fiber_r2_a1 reducesTo_S32768x1024_S32768_d1 (ix1 n) _).1 (of_decide_eq_true (List.mem_filter.1 hp).2)
    have hk' : S32768x1024.rowMajor.symm p = ix2 n k := hk.symm
    exact ⟨k, by rw [hk', h, hy]⟩
  · refine ⟨S32768x1024.rowMajor (ix2 n k), List.mem_filter.2 ⟨List.mem_finRange _, decide_eq_true ?_⟩, ?_⟩
    · rw [Equiv.symm_apply_apply]
      exact (Shape.ReducesTo.fiber_r2_a1 reducesTo_S32768x1024_S32768_d1 (ix1 n) _).2 ⟨k, rfl⟩
    · rw [Equiv.symm_apply_apply, h, hy]

/-- The position of the least entry of a row of real numbers is that of its first least entry. -/
theorem argmin_row (d : FVec Ideal S32768x1024 .f32) (f : Fin 1024 → ℝ) (n : Fin 32768) (h : ∀ k, d (ix2 n k) = (f k : EReal)) :
    argmin (F := Ideal) d (ix1 n) = BitVec.ofNat 32 (best f).val := by
  have e : argmin (F := Ideal) d = fun j => (Host.reduce2 (reducer_argmin_f32_i32 (F := Ideal)) d (iotaInDim S32768x1024 32 1)
      (constant S_ .f32 0x7F800000#32) (constantI S_ 32 0#32) reducesTo_S32768x1024_S32768_d1 h_S_ j).2 := by
    unfold argmin
    rw [Ideal.argReduce_eq_reduce2]
  have hy : ∀ k : Fin 1024, iotaInDim S32768x1024 32 1 (ix2 n k) = BitVec.ofNat 32 k.val := fun k => by pointwise
  have hz : ∀ i, constant (F := Ideal) S_ .f32 0x7F800000#32 i = ⊤ := fun i => by pointwise; exact bits_inf
  rw [e]
  exact reduce2_best d (iotaInDim S32768x1024 32 1) (constant S_ .f32 0x7F800000#32) (constantI S_ 32 0#32) f n h hy hz

end Cert.ReferenceIdeal.Ops
-- ==== Proof.RefRead.lean ====
/- Each stretch of the reference's arithmetic read at an index, over the extended reals. -/
module

public import proofs.«01_k».proof.Proof.RefRun
public import Idealize.ShloMosaic.Lib.Pointwise

@[expose] public section

noncomputable section

namespace Cert.ReferenceIdeal.Ops

open Cert.ReferenceIdeal Cert.ReferenceIdeal.Gen Idealize.ShloMosaic

/-- The batch row of a token, counted over all tokens. -/
abbrev batchOf (n : Fin 32768) : Fin 8 := ⟨n.val / 4096, by omega⟩
/-- The place of a token in its batch row. -/
abbrev placeOf (n : Fin 32768) : Fin 4096 := ⟨n.val % 4096, by omega⟩
/-- The token at a place of a batch row. -/
abbrev tokenAt (b : Fin 8) (t : Fin 4096) : Fin 32768 := ⟨b.val * 4096 + t.val, by omega⟩

/-- A token's coordinate. -/
theorem tokens_apply (x : FVec Ideal S8x64x4096 .f32) (n : Fin 32768) (d : Fin 64) :
    tokens (F := Ideal) x (ix2 n d) = x (ix3 (batchOf n) d (placeOf n)) := by
  pointwise [tokens]

/-- The two squared lengths, added. -/
theorem norms_apply (f : FVec Ideal S32768x64 .f32) (cb : FVec Ideal S1024x64 .f32) (n : Fin 32768) (k : Fin 1024) :
    norms (F := Ideal) f cb (ix2 n k)
      = (∑ d : Fin 64, f (ix2 n d) * f (ix2 n d)) + ∑ d : Fin 64, cb (ix2 k d) * cb (ix2 k d) := by
  pointwise [norms]

/-- The scalar product. -/
theorem dots_apply (f : FVec Ideal S32768x64 .f32) (cb : FVec Ideal S1024x64 .f32) (n : Fin 32768) (k : Fin 1024) :
    dots (F := Ideal) f cb (ix2 n k) = ∑ d : Fin 64, f (ix2 n d) * cb (ix2 k d) := by
  pointwise [dots]

/-- The distance: the root of the squared distance, kept from below at zero. -/
theorem dist_apply (x : FVec Ideal S8x64x4096 .f32) (cb : FVec Ideal S1024x64 .f32) (n : Fin 32768) (k : Fin 1024) :
    dist (F := Ideal) x cb (ix2 n k)
      = Ideal.sqrt (max (norms (F := Ideal) (tokens (F := Ideal) x) cb (ix2 n k)
          - Ideal.ofBits .f32 0x40000000#32 * dots (F := Ideal) (tokens (F := Ideal) x) cb (ix2 n k)) 0) := by
  unfold dist
  generalize norms (F := Ideal) (tokens (F := Ideal) x) cb = u, dots (F := Ideal) (tokens (F := Ideal) x) cb = v
  pointwise

/-- A code as a row number. -/
theorem wrap_apply (k : IVec S32768 32) (n : Fin 32768) :
    wrap (F := Ideal) k (ix2 n 0)
      = Scalar.select (IntOp.cmpi .slt (k (ix1 n)) 0#32) (IntOp.addi (k (ix1 n)) 1024#32) (k (ix1 n)) := by
  pointwise [wrap]

/-- Whether a row number lies in the codebook. -/
theorem inRange_apply (w : IVec S32768x1 32) (n : Fin 32768) :
    inRange (F := Ideal) w (ix1 n)
      = IntOp.andi (IntOp.andi (IntOp.cmpi .sge (w (ix2 n 0)) 0#32) (IntOp.cmpi .sle (w (ix2 n 0)) 1023#32)) 1#1 := by
  pointwise [inRange]
  rw [Finset.univ_unique, Finset.fold_singleton]
  rfl

/-- The row taken, where the number is in range. -/
theorem take_apply (cb : FVec Ideal S1024x64 .f32) (k : IVec S32768 32) (n : Fin 32768) (d : Fin 64) :
    take (F := Ideal) cb k (ix2 n d)
      = Scalar.select (inRange (F := Ideal) (wrap (F := Ideal) k) (ix1 n))
          (Host.gather gather_S1024x64_S32768x1_S32768x64_1_0_n_n_0_1_164 cb (wrap (F := Ideal) k) (ix2 n d))
          (Ideal.ofBits .f32 0x7FC00000#32) := by
  unfold take
  generalize inRange (F := Ideal) (wrap (F := Ideal) k) = u
  generalize Host.gather gather_S1024x64_S32768x1_S32768x64_1_0_n_n_0_1_164 cb (wrap (F := Ideal) k) = g
  pointwise

/-- The rows laid out as the input is. -/
theorem layOut_apply (r : FVec Ideal S32768x64 .f32) (b : Fin 8) (d : Fin 64) (t : Fin 4096) :
    layOut (F := Ideal) r (ix3 b d t) = r (ix2 (tokenAt b t) d) := by
  pointwise [layOut]

/-- The squared differences summed, over the number of elements. -/
theorem loss_apply (q x : FVec Ideal S8x64x4096 .f32) :
    loss (F := Ideal) q x ix0
      = Ideal.div (∑ b : Fin 8, ∑ d : Fin 64, ∑ t : Fin 4096,
          (q (ix3 b d t) - x (ix3 b d t)) * (q (ix3 b d t) - x (ix3 b d t))) (Ideal.ofBits .f32 0x4A000000#32) := by
  pointwise [loss]

/-- A code kept from below at zero. -/
theorem clip_apply (k : IVec S32768 32) (n : Fin 32768) : clip (F := Ideal) k (ix1 n) = IntOp.maxsi 0#32 (k (ix1 n)) := by
  pointwise [clip]

/-- A count over the number of tokens. -/
theorem share_apply (n : IVec S1024 32) (k : Fin 1024) :
    share (F := Ideal) n (ix1 k)
      = Ideal.div (((n (ix1 k)).toInt : ℝ) : EReal) (Ideal.ofBits .f32 0x47000000#32) := by
  pointwise [share]
  rfl

/-- The exponential of the entropy of the shares. -/
theorem perp_apply (n : IVec S1024 32) :
    perp (F := Ideal) n ix0
      = Ideal.exp (-(∑ k : Fin 1024, share (F := Ideal) n (ix1 k)
          * Ideal.log (share (F := Ideal) n (ix1 k) + Ideal.ofBits .f32 0x2EDBE6FF#32))) := by
  unfold perp
  generalize share (F := Ideal) n = s
  pointwise

end Cert.ReferenceIdeal.Ops
-- ==== Proof.RefCount.lean ====
/- The reference's counts: a scatter that adds one at each token's code is the number of tokens of each code. -/
module

public import proofs.«01_k».proof.Proof.RefRead
public import proofs.«01_k».proof.Proof.Spec
public import Idealize.ShloMosaic.Lib.Routing.Ops
public import Idealize.ShloMosaic.Lib.Routing.OpsPair

@[expose] public section

noncomputable section

namespace Cert.ReferenceIdeal.Ops

open Cert.ReferenceIdeal Cert.ReferenceIdeal.Gen Idealize.ShloMosaic

/-- A row number is left as it is by the wrap of negative numbers. -/
theorem wrap_val (k : IVec S32768 32) (n : Fin 32768) (c : Fin 1024) (h : k (ix1 n) = BitVec.ofNat 32 c.val) :
    wrap (F := Ideal) k (ix2 n 0) = BitVec.ofNat 32 c.val := by
  rw [wrap_apply, h, Routing.wrap_of_lt]
  rw [BitVec.toNat_ofNat]
  have := c.isLt
  omega

/-- A row number is left as it is by the bound at zero. -/
theorem clip_val (k : IVec S32768 32) (n : Fin 32768) (c : Fin 1024) (h : k (ix1 n) = BitVec.ofNat 32 c.val) :
    clip (F := Ideal) k (ix1 n) = BitVec.ofNat 32 c.val := by
  rw [clip_apply, h]
  exact (by decide +kernel : ∀ c : Fin 1024, IntOp.maxsi 0#32 (BitVec.ofNat 32 c.val) = BitVec.ofNat 32 c.val) c

/-- A row number is in range. -/
theorem inRange_val (w : IVec S32768x1 32) (n : Fin 32768) (c : Fin 1024) (h : w (ix2 n 0) = BitVec.ofNat 32 c.val) :
    inRange (F := Ideal) w (ix1 n) = 1#1 := by
  rw [inRange_apply, h]
  exact (by decide +kernel : ∀ c : Fin 1024, IntOp.andi (IntOp.andi (IntOp.cmpi .sge (BitVec.ofNat 32 c.val) 0#32)
    (IntOp.cmpi .sle (BitVec.ofNat 32 c.val) 1023#32)) 1#1 = 1#1) c

/-- The row taken at a code that is a row number is that row. -/
theorem take_val' (cb : FVec Ideal S1024x64 .f32) (k : IVec S32768 32) (n : Fin 32768) (c : Fin 1024)
    (h : k (ix1 n) = BitVec.ofNat 32 c.val) (d : Fin 64) : take (F := Ideal) cb k (ix2 n d) = cb (ix2 c d) := by
  have hw := wrap_val k n c h
  rw [take_apply, inRange_val _ n c hw, ValueIdx.select_one]
  exact Routing.gather_row gather_S1024x64_S32768x1_S32768x64_1_0_n_n_0_1_164 rfl rfl rfl rfl rfl cb _ n d c hw (by norm_num)

/-- Update `n` of the counting scatter lands at row `c` exactly when its index is `c`. -/
theorem lands (idx : IVec S32768x1 32) (n : Fin 32768) (c : Fin 1024) :
    scatter_S1024_S32768x1_S32768_n_0_0_1.resultIdx? (ix1 n) idx = some (ix1 c) ↔ (idx (ix2 n 0)).toInt = (c.val : ℤ) := by
  have hw : scatter_S1024_S32768x1_S32768_n_0_0_1.window (ix1 n) 0 = 0 := by
    unfold ScatterDims.window
    exact dif_neg (by decide)
  have hs : scatter_S1024_S32768x1_S32768_n_0_0_1.start (ix1 n) idx 0 = (idx (ix2 n 0)).toInt := by
    unfold ScatterDims.start
    rw [dif_pos (show (0 : Fin S1024.rank) ∈ scatter_S1024_S32768x1_S32768_n_0_0_1.scatterDimsToOperandDims from List.mem_singleton.2 rfl)]
    refine congrArg (fun i => (idx i).toInt) (funext fun a => Fin.ext ?_)
    match a with
    | ⟨0, _⟩ => rfl
    | ⟨1, _⟩ => rfl
  rw [Routing.resultIdx?_eq_some]
  constructor
  · intro h
    have := h 0
    rw [hs, hw] at this
    exact (add_zero _).symm.trans this
  · intro h a
    match a with
    | ⟨0, _⟩ =>
      refine Eq.trans ?_ h
      show scatter_S1024_S32768x1_S32768_n_0_0_1.start (ix1 n) idx 0 + (scatter_S1024_S32768x1_S32768_n_0_0_1.window (ix1 n) 0 : ℤ) = _
      rw [hs, hw]
      exact add_zero _

/-- The count of row `c` is the number of tokens whose code is `c`. -/
theorem count_val' (k : IVec S32768 32) (cd : Fin 32768 → Fin 1024) (h : ∀ n, k (ix1 n) = BitVec.ofNat 32 (cd n).val) (c : Fin 1024) :
    count (F := Ideal) k (ix1 c) = BitVec.ofNat 32 (Finset.univ.filter fun n => c = cd n).card := by
  have hw : ∀ n, wrap (F := Ideal) (clip (F := Ideal) k) (ix2 n 0) = BitVec.ofNat 32 (cd n).val := fun n =>
    wrap_val _ n _ (clip_val k n _ (h n))
  have hit : ∀ n : Fin 32768, scatter_S1024_S32768x1_S32768_n_0_0_1.resultIdx? (ix1 n) (wrap (F := Ideal) (clip (F := Ideal) k))
      = some (ix1 c) ↔ c = cd n := fun n => by
    have hc := (cd n).isLt
    rw [lands, hw, StableHlo.Predicate.toInt_ofNat_small _ (by omega), Fin.ext_iff]
    omega
  have hN : S32768.numel = 32768 := Routing.numel1 32768
  unfold count
  rw [Routing.scatter_at]
  have e : ∀ (L : List (Fin S32768.numel)) (z : ℕ), L.foldl (fun a n => if scatter_S1024_S32768x1_S32768_n_0_0_1.resultIdx?
        (S32768.rowMajor.symm n) (wrap (F := Ideal) (clip (F := Ideal) k)) = some (ix1 c) then IntOp.addi a 1#32 else a) (BitVec.ofNat 32 z)
      = BitVec.ofNat 32 (z + L.countP fun n => c = cd (n.cast hN)) := by
    intro L
    induction L with
    | nil => intro z; rfl
    | cons n L ih =>
      intro z
      have hn : S32768.rowMajor.symm n = ix1 (n.cast hN) := Routing.symm1 n
      rw [List.foldl_cons, List.countP_cons, hn]
      by_cases q : c = cd (n.cast hN)
      · have s : IntOp.addi (BitVec.ofNat 32 z) 1#32 = BitVec.ofNat 32 (z + 1) := (BitVec.ofNat_add z 1).symm
        rw [if_pos ((hit _).2 q), s, ih, if_pos (decide_eq_true q)]
        congr 1; omega
      · rw [if_neg fun w => q ((hit _).1 w), ih, if_neg (fun w => q (of_decide_eq_true w)), Nat.add_zero]
  refine (e _ 0).trans (congrArg _ ?_)
  rw [Nat.zero_add, List.countP_eq_length_filter, ← List.toFinset_card_of_nodup ((List.nodup_finRange _).filter _)]
  refine Finset.card_equiv (finCongr hN) fun n => ?_
  simp

end Cert.ReferenceIdeal.Ops
-- ==== Proof.PreFacts.lean ====
/- The side conditions the precondition's operations state, proved. -/
module

public import proofs.«01_k».proof.Pre_apart

@[expose] public section

namespace Cert.Pre_apart

open Idealize.ShloMosaic

/-- The precondition's side conditions, each by computation. -/
instance facts : Cert.Pre_apart.Facts where
  transposes_S8x64x4096_S8x4096x64_0_2_1 := by decide
  shapeCasts_S8x4096x64_S32768x64 := by decide
  reducesTo_S32768x64_S32768_d1 := by decide
  h_S_ := by decide
  bcast_S32768_S32768x1_0 := by decide
  reducesTo_S1024x64_S1024_d1 := by decide
  bcast_S1024_S1x1024_1 := by decide
  bcast_S32768x1_S32768x1024_0_1 := by decide
  bcast_S1x1024_S32768x1024_0_1 := by decide
  transposes_S1024x64_S64x1024_1_0 := by decide
  bcast_S_S32768x1024 := by decide
  bcast_S_S8x64x4096 := by decide
  bcast_S_S1024x64 := by decide
  dot_S32768x64_S64x1024_S32768x1024_1_0_0_1_n_n_wf := by decide

end Cert.Pre_apart

end
-- ==== Proof.Pre.lean ====
/- What the precondition says of the inputs: they are real numbers, and every token is apart from every codebook row. -/
module

public import proofs.«01_k».proof.Proof.PreFacts
public import proofs.«01_k».proof.Proof.RefRead
public import proofs.«01_k».proof.Proof.Spec

@[expose] public section

noncomputable section

namespace Cert.VQ

open Idealize.ShloMosaic Cert.ReferenceIdeal Cert.ReferenceIdeal.Gen Cert.ReferenceIdeal.Ops

/-- An extended real below infinity in size is a real number. -/
theorem real_of_abs_lt {a : EReal} (h : max a (-a) < ⊤) : a = (a.toReal : EReal) := by
  refine (EReal.coe_toReal ?_ ?_).symm
  · rintro rfl; simp at h
  · rintro rfl; simp at h

/-- A comparison bit that is set. -/
theorem of_bit {p : Prop} [Decidable p] (h : BitVec.ofBool (decide p) = 1#1) : p := by
  by_contra q
  rw [decide_eq_false q] at h
  exact absurd h (by decide)

/-- The squared distance as the reference computes it, at a token and a row of real numbers. -/
theorem refSq_val {x : FVec Ideal S8x64x4096 .f32} {cb : FVec Ideal S1024x64 .f32} {X : Fin 8 → Fin 4096 → Fin 64 → ℝ}
    {C : Fin 1024 → Fin 64 → ℝ} (hx : ∀ b t d, x (ix3 b d t) = (X b t d : EReal)) (hc : ∀ k d, cb (ix2 k d) = (C k d : EReal))
    (n : Fin 32768) (k : Fin 1024) :
    norms (F := Ideal) (tokens (F := Ideal) x) cb (ix2 n k)
        - Ideal.ofBits .f32 0x40000000#32 * dots (F := Ideal) (tokens (F := Ideal) x) cb (ix2 n k)
      = (sq (X (batchOf n) (placeOf n)) (C k) : EReal) := by
  rw [norms_apply, dots_apply, bits_two]
  simp only [tokens_apply, hx, hc, ← EReal.coe_mul, ← EReal.coe_add, ← coe_sum, ← EReal.coe_sub, sq_expand_two]

/-- The precondition's first part, entry by entry. -/
theorem pre_x (x : FVec Ideal S8x64x4096 .f32) (cb : FVec Ideal S1024x64 .f32)
    (h : (Cert.Pre_apart.fn (F := Ideal) x cb).1 = fun _ => 1#1) (i : S8x64x4096.Idx) : max (x i) (-(x i)) < ⊤ := by
  have e : BitVec.ofBool (decide (max (x i) (-(x i)) < Ideal.ofBits .f32 0x7F800000#32)) = 1#1 := congrFun h i
  rw [bits_inf] at e
  exact of_bit e

/-- Its second part. -/
theorem pre_cb (x : FVec Ideal S8x64x4096 .f32) (cb : FVec Ideal S1024x64 .f32)
    (h : (Cert.Pre_apart.fn (F := Ideal) x cb).2.1 = fun _ => 1#1) (i : S1024x64.Idx) : max (cb i) (-(cb i)) < ⊤ := by
  have e : BitVec.ofBool (decide (max (cb i) (-(cb i)) < Ideal.ofBits .f32 0x7F800000#32)) = 1#1 := congrFun h i
  rw [bits_inf] at e
  exact of_bit e

/-- Its third part compares the squared distance, as the reference computes it, with the least normal number. -/
theorem pre_far_eq (x : FVec Ideal S8x64x4096 .f32) (cb : FVec Ideal S1024x64 .f32) :
    (Cert.Pre_apart.fn (F := Ideal) x cb).2.2
      = cmpf (F := Ideal) .oge (subf (F := Ideal) (norms (F := Ideal) (tokens (F := Ideal) x) cb)
          (mulf (F := Ideal) (broadcastInDim S32768x1024 ![] bcast_S_S32768x1024 (constant S_ .f32 0x40000000#32))
            (dots (F := Ideal) (tokens (F := Ideal) x) cb)))
          (broadcastInDim S32768x1024 ![] bcast_S_S32768x1024 (constant S_ .f32 0x00800000#32)) := rfl

/-- A comparison of a difference of two arrays with a constant, at an index. -/
theorem farBit_apply (u v : FVec Ideal S32768x1024 .f32) (n : Fin 32768) (k : Fin 1024) :
    cmpf (F := Ideal) .oge (subf u (mulf (broadcastInDim S32768x1024 ![] bcast_S_S32768x1024 (constant S_ .f32 0x40000000#32)) v))
        (broadcastInDim S32768x1024 ![] bcast_S_S32768x1024 (constant S_ .f32 0x00800000#32)) (ix2 n k)
      = BitVec.ofBool (decide (Ideal.ofBits .f32 0x00800000#32 ≤ u (ix2 n k) - Ideal.ofBits .f32 0x40000000#32 * v (ix2 n k))) := rfl

/-- The precondition's third part, entry by entry. -/
theorem pre_far (x : FVec Ideal S8x64x4096 .f32) (cb : FVec Ideal S1024x64 .f32)
    (h : (Cert.Pre_apart.fn (F := Ideal) x cb).2.2 = fun _ => 1#1) (n : Fin 32768) (k : Fin 1024) :
    (tiny : EReal) ≤ norms (F := Ideal) (tokens (F := Ideal) x) cb (ix2 n k)
        - Ideal.ofBits .f32 0x40000000#32 * dots (F := Ideal) (tokens (F := Ideal) x) cb (ix2 n k) := by
  rw [pre_far_eq] at h
  have e := congrFun h (ix2 n k)
  rw [farBit_apply, bits_tiny] at e
  exact of_bit e

/-- Inputs of which the precondition holds are real numbers, every token apart from every row. -/
theorem apart_of_pre (x : FVec Ideal S8x64x4096 .f32) (cb : FVec Ideal S1024x64 .f32)
    (h1 : (Cert.Pre_apart.fn (F := Ideal) x cb).1 = fun _ => 1#1) (h2 : (Cert.Pre_apart.fn (F := Ideal) x cb).2.1 = fun _ => 1#1)
    (h3 : (Cert.Pre_apart.fn (F := Ideal) x cb).2.2 = fun _ => 1#1) :
    Apart x cb (fun b t d => (x (ix3 b d t)).toReal) (fun k d => (cb (ix2 k d)).toReal) := by
  have hx : ∀ b t d, x (ix3 b d t) = ((x (ix3 b d t)).toReal : EReal) := fun b t d => real_of_abs_lt (pre_x x cb h1 _)
  have hc : ∀ k d, cb (ix2 k d) = ((cb (ix2 k d)).toReal : EReal) := fun k d => real_of_abs_lt (pre_cb x cb h2 _)
  refine ⟨hx, hc, fun b t k => ?_⟩
  have e := pre_far x cb h3 (tokenAt b t) k
  rw [refSq_val hx hc, EReal.coe_le_coe_iff] at e
  have hb : batchOf (tokenAt b t) = b := Fin.ext (by show (b.val * 4096 + t.val) / 4096 = b.val; omega)
  have ht : placeOf (tokenAt b t) = t := Fin.ext (by show (b.val * 4096 + t.val) % 4096 = t.val; omega)
  rwa [hb, ht] at e

end Cert.VQ
-- ==== Proof.RefValue.lean ====
/- What the reference's result arrays hold when the inputs are finite and apart. -/
module

public import proofs.«01_k».proof.Proof.RefArgmin
public import proofs.«01_k».proof.Proof.RefCount
public import proofs.«01_k».proof.Proof.Pre

@[expose] public section

noncomputable section

namespace Cert.ReferenceIdeal.Ops

open Cert.VQ Cert.ReferenceIdeal Cert.ReferenceIdeal.Gen Idealize.ShloMosaic

/-- The tokens, counted over all of them, are the places of the batch rows. -/
def tokenEquiv : Fin 8 × Fin 4096 ≃ Fin 32768 where
  toFun p := tokenAt p.1 p.2
  invFun n := (batchOf n, placeOf n)
  left_inv p := Prod.ext (Fin.ext (by have := p.2.isLt; show (p.1.val * 4096 + p.2.val) / 4096 = p.1.val; omega))
    (Fin.ext (by have := p.2.isLt; show (p.1.val * 4096 + p.2.val) % 4096 = p.2.val; omega))
  right_inv n := Fin.ext (by show n.val / 4096 * 4096 + n.val % 4096 = n.val; omega)

/-- The batch row of the token at a place. -/
theorem batchOf_tokenAt (b : Fin 8) (t : Fin 4096) : batchOf (tokenAt b t) = b := congrArg Prod.fst (tokenEquiv.left_inv (b, t))

/-- The place of the token at a place. -/
theorem placeOf_tokenAt (b : Fin 8) (t : Fin 4096) : placeOf (tokenAt b t) = t := congrArg Prod.snd (tokenEquiv.left_inv (b, t))

section Values

variable {x : FVec Ideal S8x64x4096 .f32} {cb : FVec Ideal S1024x64 .f32}
variable {X : Fin 8 → Fin 4096 → Fin 64 → ℝ} {C : Fin 1024 → Fin 64 → ℝ} (hA : Apart x cb X C)

include hA

/-- The distances. -/
theorem dist_row (n : Fin 32768) (k : Fin 1024) :
    dist (F := Ideal) x cb (ix2 n k) = (dst C (X (batchOf n) (placeOf n)) k : EReal) := by
  rw [dist_apply, refSq_val hA.tokens hA.rows, max_eq_left (EReal.coe_nonneg.2 (sq_nonneg _ _)), Ideal.sqrt_coe,
    if_neg (sq_nonneg _ _).not_gt, dst]

/-- The codes are the numbers of the nearest rows. -/
theorem codesOf_val (n : Fin 32768) :
    codesOf (F := Ideal) x cb (ix1 n) = BitVec.ofNat 32 (code C (X (batchOf n) (placeOf n))).val :=
  argmin_row (dist (F := Ideal) x cb) _ n (dist_row hA n)

/-- The chosen rows are the nearest rows. -/
theorem quantOf_val (b : Fin 8) (d : Fin 64) (t : Fin 4096) :
    quantOf (F := Ideal) x cb (ix3 b d t) = (C (code C (X b t)) d : EReal) := by
  unfold quantOf
  rw [layOut_apply, take_val' _ _ _ _ (codesOf_val hA _), hA.rows, batchOf_tokenAt, placeOf_tokenAt]

/-- The first result: a token plus its difference from its nearest row is that row. -/
theorem straight_val (b : Fin 8) (d : Fin 64) (t : Fin 4096) :
    x (ix3 b d t) + (quantOf (F := Ideal) x cb (ix3 b d t) - x (ix3 b d t)) = (C (code C (X b t)) d : EReal) := by
  rw [quantOf_val hA, hA.tokens, ← EReal.coe_sub, ← EReal.coe_add, add_sub_cancel]

/-- The loss is the mean of the squared errors. -/
theorem loss_row : loss (F := Ideal) (quantOf (F := Ideal) x cb) x ix0 = (lossOf C X : EReal) := by
  rw [loss_apply, bits_elems, Ideal.div_coe (by norm_num)]
  simp only [quantOf_val hA, hA.tokens, ← EReal.coe_sub, ← EReal.coe_mul, ← coe_sum]
  have e : (∑ b, ∑ d, ∑ t, (C (code C (X b t)) d - X b t d) * (C (code C (X b t)) d - X b t d)) = ∑ b, ∑ t, err C (X b t) :=
    Finset.sum_congr rfl fun b _ => by
      rw [Finset.sum_comm]
      exact Finset.sum_congr rfl fun t _ => by
        unfold err VQ.sq
        exact Finset.sum_congr rfl fun d _ => by ring
  rw [e, lossOf]

/-- The number of tokens of a row, as a sum over the places. -/
theorem count_row (k : Fin 1024) :
    (((count (F := Ideal) (codesOf (F := Ideal) x cb) (ix1 k)).toInt : ℝ)) = ∑ b, ∑ t, hit C (X b t) k := by
  rw [count_val' _ _ (codesOf_val hA)]
  have hle : (Finset.univ.filter fun n : Fin 32768 => k = code C (X (batchOf n) (placeOf n))).card ≤ 32768 :=
    (Finset.card_filter_le _ _).trans (by rw [Finset.card_univ, Fintype.card_fin])
  rw [StableHlo.Predicate.toInt_ofNat_small _ (by omega), Int.cast_natCast, Finset.card_filter, Nat.cast_sum]
  rw [← Equiv.sum_comp tokenEquiv, Fintype.sum_prod_type]
  refine Finset.sum_congr rfl fun b _ => Finset.sum_congr rfl fun t _ => ?_
  show ((if k = code C (X (batchOf (tokenAt b t)) (placeOf (tokenAt b t))) then 1 else 0 : ℕ) : ℝ) = _
  rw [batchOf_tokenAt, placeOf_tokenAt, hit]
  split_ifs <;> simp

/-- The shares. -/
theorem share_row (k : Fin 1024) :
    share (F := Ideal) (count (F := Ideal) (codesOf (F := Ideal) x cb)) (ix1 k) = (shareOf C X k : EReal) := by
  rw [share_apply, bits_tokens, Ideal.div_coe (by norm_num), count_row hA, ← EReal.coe_mul, shareOf]

/-- The perplexity is that of the shares. -/
theorem perp_row : perp (F := Ideal) (count (F := Ideal) (codesOf (F := Ideal) x cb)) ix0 = perpOf C X := by
  rw [perp_apply]
  simp only [share_row hA]
  rfl

end Values

end Cert.ReferenceIdeal.Ops
-- ==== Proof.Equation.lean ====
/- The equation: on inputs that are finite and apart, the kernel's result arrays are the reference's. -/
module

public import proofs.«01_k».proof.Proof.KernelValue
public import proofs.«01_k».proof.Proof.RefValue

@[expose] public section

noncomputable section

namespace Cert.VQ

open Idealize.ShloMosaic Idealize.ShloMosaic.TcCoe
open Cert.KernelIdeal.Body Cert.KernelIdeal.Value Cert.ReferenceIdeal.Ops

/-- Codes without their middle axis, at a batch row and a place. -/
theorem dropMiddle_apply (v : IVec Cert.KernelIdeal.S8x1x4096 32) (b : Fin 8) (t : Fin 4096) :
    shapeCast Cert.KernelIdeal.S8x4096 v Cert.KernelIdeal.Gen.shapeCasts_S8x1x4096_S8x4096 (ix2 b t) = v (ix3 b 0 t) := by
  pointwise

/-- A one by one array as a scalar. -/
theorem scalar_apply (v : FVec Ideal Cert.KernelIdeal.S1x1 .f32) :
    shapeCast Cert.KernelIdeal.S_ v Cert.KernelIdeal.Gen.shapeCasts_S1x1_S_ ix0 = v (ix2 0 0) := by
  pointwise

/-- The codes of all tokens laid out by batch row and place. -/
theorem byRow_apply (v : IVec Cert.ReferenceIdeal.S32768 32) (b : Fin 8) (t : Fin 4096) :
    shapeCast Cert.ReferenceIdeal.S8x4096 v Cert.ReferenceIdeal.Gen.shapeCasts_S32768_S8x4096 (ix2 b t) = v (ix1 (tokenAt b t)) := by
  pointwise

section Equation

variable (m : (ℓ : Loc Cert.KernelIdeal.nD Cert.KernelIdeal.τ Cert.KernelIdeal.sig) → Buf (Elt Ideal) ℓ) (c : Dev Cert.KernelIdeal.nD)
variable {x : FVec Ideal Cert.ReferenceIdeal.S8x64x4096 .f32} {cb : FVec Ideal Cert.ReferenceIdeal.S1024x64 .f32}
variable {X : Fin 8 → Fin 4096 → Fin 64 → ℝ} {C : Fin 1024 → Fin 64 → ℝ}
variable (hx : x = m ((c : Thread Cert.KernelIdeal.nD Cert.KernelIdeal.τ).loc Cert.KernelIdeal.main_arg0))
variable (hc : cb = m ((c : Thread Cert.KernelIdeal.nD Cert.KernelIdeal.τ).loc Cert.KernelIdeal.main_arg1))
variable (hA : Apart x cb X C)

include hx hc hA

/-- The first result. -/
theorem quant_eq : addf (F := Ideal) x (subf (F := Ideal) (quantOf (F := Ideal) x cb) x) = quantArr m c := by
  funext i
  obtain ⟨b, d, t, rfl⟩ : ∃ b d t, i = ix3 b d t := ⟨i 0, i 1, i 2, by funext a; fin_cases a <;> rfl⟩
  have e := straight_val hA b d t
  subst hx hc
  exact e.trans (quant_val m c hA b d t).symm

/-- The second result. -/
theorem codes_eq : shapeCast Cert.ReferenceIdeal.S8x4096 (codesOf (F := Ideal) x cb) Cert.ReferenceIdeal.Gen.shapeCasts_S32768_S8x4096
    = shapeCast Cert.KernelIdeal.S8x4096 (codesArr m c) Cert.KernelIdeal.Gen.shapeCasts_S8x1x4096_S8x4096 := by
  funext i
  obtain ⟨b, t, rfl⟩ : ∃ b t, i = ix2 b t := ⟨i 0, i 1, by funext a; fin_cases a <;> rfl⟩
  have e := codesOf_val hA (tokenAt b t)
  rw [batchOf_tokenAt, placeOf_tokenAt] at e
  subst hx hc
  exact ((byRow_apply _ b t).trans e).trans ((dropMiddle_apply (codesArr m c) b t).trans (codes_val m c hA b t)).symm

/-- The third result, and the fourth. -/
theorem loss_eq : loss (F := Ideal) (quantOf (F := Ideal) x cb) x
    = shapeCast Cert.KernelIdeal.S_ (lossArr m c) Cert.KernelIdeal.Gen.shapeCasts_S1x1_S_ := by
  funext i
  obtain rfl : i = ix0 := funext fun a => a.elim0
  have e := loss_row hA
  subst hx hc
  exact e.trans ((scalar_apply (lossArr m c)).trans (loss_val m c hA)).symm

/-- The fifth result. -/
theorem perp_eq : perp (F := Ideal) (count (F := Ideal) (codesOf (F := Ideal) x cb))
    = shapeCast Cert.KernelIdeal.S_ (perpArr m c) Cert.KernelIdeal.Gen.shapeCasts_S1x1_S_ := by
  funext i
  obtain rfl : i = ix0 := funext fun a => a.elim0
  have e := perp_row hA
  subst hx hc
  exact e.trans ((scalar_apply (perpArr m c)).trans (perp_val m c hA)).symm

end Equation

end Cert.VQ
-- ==== Proof.RefFrame.lean ====
/- The reference program runs, leaves its arguments as they were, and every semaphore at zero. -/
module

public import proofs.«01_k».proof.Proof.RefRun
public import proofs.«01_k».proof.Defs
public import Idealize.ShloMosaic.Lib.Claim

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- Every weakly fair execution ends, the arguments unchanged and every semaphore at zero: the program has none. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_arg0).trans (arg0_val _), (h c main_arg1).trans (arg1_val _)⟩,
    sem_eq_zero_of_no_sems (by decide) r.2⟩) (run m ρ)

end Cert.ReferenceIdeal.Ops

end
-- ==== Proof.RefResults.lean ====
/- The reference's results after its run, as terms of its arguments. -/
module

public import proofs.«01_k».proof.Proof.RefFrame

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- After the reference's run each result holds its term of the arguments, and the arguments are as they were. -/
theorem results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = (addf (m ((c.tc : Thread nD τ).loc main_arg0))
              (subf (quantOf (m ((c.tc : Thread nD τ).loc main_arg0)) (m ((c.tc : Thread nD τ).loc main_arg1)))
                (m ((c.tc : Thread nD τ).loc main_arg0))) : (⟨S8x64x4096, .f32⟩ : BufTy).Contents (Elt F))
      ∧ r.2.mem ((c.tc : Thread nD τ).loc main_v53)
          = shapeCast S8x4096 (codesOf (m ((c.tc : Thread nD τ).loc main_arg0)) (m ((c.tc : Thread nD τ).loc main_arg1)))
              shapeCasts_S32768_S8x4096
      ∧ r.2.mem ((c.tc : Thread nD τ).loc main_v26)
          = loss (quantOf (m ((c.tc : Thread nD τ).loc main_arg0)) (m ((c.tc : Thread nD τ).loc main_arg1)))
              (m ((c.tc : Thread nD τ).loc main_arg0))
      ∧ r.2.mem ((c.tc : Thread nD τ).loc main_v30)
          = loss (quantOf (m ((c.tc : Thread nD τ).loc main_arg0)) (m ((c.tc : Thread nD τ).loc main_arg1)))
              (m ((c.tc : Thread nD τ).loc main_arg0))
      ∧ r.2.mem ((c.tc : Thread nD τ).loc main_v52)
          = perp (count (F := F) (codesOf (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c main_v32).trans (v32_val _), (h c main_v53).trans (v53_val _),
    (h c main_v26).trans (v26_val _), (h c main_v30).trans (v30_val _), (h c main_v52).trans (v52_val _),
    (h c main_arg0).trans (arg0_val _), (h c main_arg1).trans (arg1_val _)⟩) (run m ρ)

end Cert.ReferenceIdeal.Ops

end
-- ==== Proof.lean ====
module

public import proofs.«01_k».proof.Defs
public import proofs.«01_k».proof.Proof.Gen.Kernel.Frame
public import proofs.«01_k».proof.Proof.Gen.KernelIdeal.Frame
public import proofs.«01_k».proof.Proof.Equation
public import proofs.«01_k».proof.Proof.RefResults
public import Idealize.ShloMosaic.Adequacy
public import Idealize.ShloMosaic.Init

@[expose] public section

noncomputable section

namespace Cert.Proof

open Idealize.ShloMosaic Idealize.SL.Sem

/-- The kernel and the reference end with equal results, on inputs that are finite and apart. -/
theorem algebraic : Cert.algebraic_KernelIdeal_ReferenceIdeal_pre_apart (hKernelIdeal := Cert.KernelIdeal.Gen.facts)
    (hReferenceIdeal := Cert.ReferenceIdeal.Gen.facts) (hPre_apart := Cert.Pre_apart.facts) := by
  intro m g m' g' hP hin
  refine ⟨fun c => Cert.KernelIdeal.Body.quantArr m c,
    fun c => shapeCast Cert.KernelIdeal.S8x4096 (Cert.KernelIdeal.Body.codesArr m c)
      Cert.KernelIdeal.Gen.shapeCasts_S8x1x4096_S8x4096,
    fun c => shapeCast Cert.KernelIdeal.S_ (Cert.KernelIdeal.Body.lossArr m c) Cert.KernelIdeal.Gen.shapeCasts_S1x1_S_,
    fun c => shapeCast Cert.KernelIdeal.S_ (Cert.KernelIdeal.Body.lossArr m c) Cert.KernelIdeal.Gen.shapeCasts_S1x1_S_,
    fun c => shapeCast Cert.KernelIdeal.S_ (Cert.KernelIdeal.Body.perpArr m c) Cert.KernelIdeal.Gen.shapeCasts_S1x1_S_, ?_, ?_⟩
  · exact (θ_run _ _ _).mono (fun r h c => ⟨(h c).1, (h c).2.1, (h c).2.2.1, (h c).2.2.1, (h c).2.2.2⟩)
      (Cert.KernelIdeal.Body.run m g)
  · refine (θ_run _ _ _).mono (fun r h c => ?_) (Cert.ReferenceIdeal.Ops.results m' g')
    obtain ⟨h32, h53, h26, h30, h52, ha⟩ := h c
    obtain ⟨p1, p2, p3⟩ := hP c
    obtain ⟨hx, hc⟩ := hin c
    have hA := Cert.VQ.apart_of_pre _ _ p1 p2 p3
    rw [← hx, ← hc] at hA
    exact ⟨h32.trans (Cert.VQ.quant_eq m c hx hc hA), h53.trans (Cert.VQ.codes_eq m c hx hc hA),
      h26.trans (Cert.VQ.loss_eq m c hx hc hA), h30.trans (Cert.VQ.loss_eq m c hx hc hA),
      h52.trans (Cert.VQ.perp_eq m c hx hc hA), ha⟩

/-- Everything that is claimed. -/
theorem claim : Cert.Claim :=
  ⟨Cert.Kernel.Gen.facts, Cert.KernelIdeal.Gen.facts, Cert.ReferenceIdeal.Gen.facts, Cert.Pre_apart.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Ops.frame m ρ,
    fun m ρ _ => Cert.ReferenceIdeal.Ops.frame m ρ,
    trivial,
    algebraic⟩

end Cert.Proof

end
